-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16x8x2048x128 : Shape := ⟨4, ![16, 8, 2048, 128]⟩
abbrev S16x8x16x128x128 : Shape := ⟨5, ![16, 8, 16, 128, 128]⟩
abbrev S16x8x32x8x128 : Shape := ⟨5, ![16, 8, 32, 8, 128]⟩
abbrev S16x2048x5120 : Shape := ⟨3, ![16, 2048, 5120]⟩
abbrev S128 : Shape := ⟨1, ![128]⟩
abbrev S1x128 : Shape := ⟨2, ![1, 128]⟩
abbrev S16x2048x1024 : Shape := ⟨3, ![16, 2048, 1024]⟩
abbrev S1x8x512x128 : Shape := ⟨4, ![1, 8, 512, 128]⟩
abbrev S1x8x4x128x128 : Shape := ⟨5, ![1, 8, 4, 128, 128]⟩
abbrev S1x8x8x8x128 : Shape := ⟨5, ![1, 8, 8, 8, 128]⟩
abbrev S1x512x1024 : Shape := ⟨3, ![1, 512, 1024]⟩
abbrev S8x128x128 : Shape := ⟨3, ![8, 128, 128]⟩
abbrev S512x1024 : Shape := ⟨2, ![512, 1024]⟩
abbrev S64x128 : Shape := ⟨2, ![64, 128]⟩
abbrev S1x128x128 : Shape := ⟨3, ![1, 128, 128]⟩
abbrev S128x128 : Shape := ⟨2, ![128, 128]⟩
abbrev S1x1x64x128 : Shape := ⟨4, ![1, 1, 64, 128]⟩
abbrev S1x1x1x128x128 : Shape := ⟨5, ![1, 1, 1, 128, 128]⟩
abbrev S192x128 : Shape := ⟨2, ![192, 128]⟩
abbrev S1x1x1x1x128 : Shape := ⟨5, ![1, 1, 1, 1, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 10
  | .vmem => 19
  | .smem => 0
  | _ => 0

abbrev bufTy : (tb : Table) → Fin (tcTables nBuf tb) → BufTy
  | .hbm, ⟨0, _⟩ => ⟨S16x8x2048x128, .bf16⟩
  | .hbm, ⟨1, _⟩ => ⟨S16x8x2048x128, .bf16⟩
  | .hbm, ⟨2, _⟩ => ⟨S16x8x2048x128, .f32⟩
  | .hbm, ⟨3, _⟩ => ⟨S16x8x2048x128, .bf16⟩
  | .hbm, ⟨4, _⟩ => ⟨S16x8x16x128x128, .bf16⟩
  | .hbm, ⟨5, _⟩ => ⟨S16x8x32x8x128, .f32⟩
  | .hbm, ⟨6, _⟩ => ⟨S16x2048x5120, .f32⟩
  | .hbm, ⟨7, _⟩ => ⟨S128, .f32⟩
  | .hbm, ⟨8, _⟩ => ⟨S1x128, .f32⟩
  | .hbm, ⟨9, _⟩ => ⟨S16x2048x1024, .bf16⟩
  | .local _ .vmem, ⟨0, _⟩ => ⟨S1x8x512x128, .bf16⟩
  | .local _ .vmem, ⟨1, _⟩ => ⟨S1x8x512x128, .bf16⟩
  | .local _ .vmem, ⟨2, _⟩ => ⟨S1x8x512x128, .bf16⟩
  | .local _ .vmem, ⟨3, _⟩ => ⟨S1x8x512x128, .bf16⟩
  | .local _ .vmem, ⟨4, _⟩ => ⟨S1x8x512x128, .f32⟩
  | .local _ .vmem, ⟨5, _⟩ => ⟨S1x8x512x128, .f32⟩
  | .local _ .vmem, ⟨6, _⟩ => ⟨S1x8x512x128, .bf16⟩
  | .local _ .vmem, ⟨7, _⟩ => ⟨S1x8x512x128, .bf16⟩
  | .local _ .vmem, ⟨8, _⟩ => ⟨S1x8x4x128x128, .bf16⟩
  | .local _ .vmem, ⟨9, _⟩ => ⟨S1x8x4x128x128, .bf16⟩
  | .local _ .vmem, ⟨10, _⟩ => ⟨S1x8x8x8x128, .f32⟩
  | .local _ .vmem, ⟨11, _⟩ => ⟨S1x8x8x8x128, .f32⟩
  | .local _ .vmem, ⟨12, _⟩ => ⟨S1x512x1024, .f32⟩
  | .local _ .vmem, ⟨13, _⟩ => ⟨S1x512x1024, .f32⟩
  | .local _ .vmem, ⟨14, _⟩ => ⟨S1x128, .f32⟩
  | .local _ .vmem, ⟨15, _⟩ => ⟨S1x512x1024, .bf16⟩
  | .local _ .vmem, ⟨16, _⟩ => ⟨S1x512x1024, .bf16⟩
  | .local _ .vmem, ⟨17, _⟩ => ⟨S8x128x128, .f32⟩
  | .local _ .vmem, ⟨18, _⟩ => ⟨S512x1024, .f32⟩
  | _, _ => ⟨S16x8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  v197
def k0_off1 (k0_t1 : Fin k0_t1_loop.trips) (c0_i32_99 : BitVec 32) : Fin 4 → Nat :=
  let c0_117 : Index := 0#32
  let c0_118 : Index := 0#32
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v216 : Index := Scalar.indexCast v199
  let c0_119 : Index := 0#32
  ![0, 0, v216.toNat, 0]
def k0_off2 (k0_t1 : Fin k0_t1_loop.trips) (c0_i32_99 : BitVec 32) : Fin 4 → Nat :=
  let c0_124 : Index := 0#32
  let c1_125 : Index := 1#32
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v225 : Index := Scalar.indexCast v199
  let c0_126 : Index := 0#32
  ![0, 1, v225.toNat, 0]
def k0_off3 (k0_t1 : Fin k0_t1_loop.trips) (c0_i32_99 : BitVec 32) : Fin 4 → Nat :=
  let c0_131 : Index := 0#32
  let c2_132 : Index := 2#32
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v234 : Index := Scalar.indexCast v199
  let c0_133 : Index := 0#32
  ![0, 2, v234.toNat, 0]
def k0_off4 (k0_t1 : Fin k0_t1_loop.trips) (c0_i32_99 : BitVec 32) : Fin 4 → Nat :=
  let c0_138 : Index := 0#32
  let c3_139 : Index := 3#32
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v243 : Index := Scalar.indexCast v199
  let c0_140 : Index := 0#32
  ![0, 3, v243.toNat, 0]
def k0_off5 (k0_t1 : Fin k0_t1_loop.trips) (c0_i32_99 : BitVec 32) : Fin 4 → Nat :=
  let c0_145 : Index := 0#32
  let c4_146 : Index := 4#32
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v252 : Index := Scalar.indexCast v199
  let c0_147 : Index := 0#32
  ![0, 4, v252.toNat, 0]
def k0_off6 (k0_t1 : Fin k0_t1_loop.trips) (c0_i32_99 : BitVec 32) : Fin 4 → Nat :=
  let c0_152 : Index := 0#32
  let c5_153 : Index := 5#32
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v261 : Index := Scalar.indexCast v199
  let c0_154 : Index := 0#32
  ![0, 5, v261.toNat, 0]
def k0_off7 (k0_t1 : Fin k0_t1_loop.trips) (c0_i32_99 : BitVec 32) : Fin 4 → Nat :=
  let c0_159 : Index := 0#32
  let c6_160 : Index := 6#32
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v270 : Index := Scalar.indexCast v199
  let c0_161 : Index := 0#32
  ![0, 6, v270.toNat, 0]
def k0_off8 (k0_t1 : Fin k0_t1_loop.trips) (c0_i32_99 : BitVec 32) : Fin 4 → Nat :=
  let c0_166 : Index := 0#32
  let c7_167 : Index := 7#32
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v279 : Index := Scalar.indexCast v199
  let c0_168 : Index := 0#32
  ![0, 7, v279.toNat, 0]
def k0_off9 (k0_t1 : Fin k0_t1_loop.trips) : Fin 5 → Nat :=
  let c0_200 : Index := 0#32
  let c0_201 : Index := 0#32
  let c0_i32_1 : BitVec 32 := 0#32
  let c1_i32 : BitVec 32 := 1#32
  let arg13 : BitVec 32 := Scf.iv c0_i32_1 c1_i32 k0_t1
  let v347 : Index := Scalar.indexCast arg13
  let c0_202 : Index := 0#32
  let c0_203 : Index := 0#32
  ![0, 0, v347.toNat, 0, 0]
def k0_off10 (k0_t1 : Fin k0_t1_loop.trips) : Fin 5 → Nat :=
  let c0_208 : Index := 0#32
  let c1_209 : Index := 1#32
  let c0_i32_1 : BitVec 32 := 0#32
  let c1_i32 : BitVec 32 := 1#32
  let arg13 : BitVec 32 := Scf.iv c0_i32_1 c1_i32 k0_t1
  let v355 : Index := Scalar.indexCast arg13
  let c0_210 : Index := 0#32
  let c0_211 : Index := 0#32
  ![0, 1, v355.toNat, 0, 0]
def k0_off11 (k0_t1 : Fin k0_t1_loop.trips) : Fin 5 → Nat :=
  let c0_216 : Index := 0#32
  let c2_217 : Index := 2#32
  let c0_i32_1 : BitVec 32 := 0#32
  let c1_i32 : BitVec 32 := 1#32
  let arg13 : BitVec 32 := Scf.iv c0_i32_1 c1_i32 k0_t1
  let v363 : Index := Scalar.indexCast arg13
  let c0_218 : Index := 0#32
  let c0_219 : Index := 0#32
  ![0, 2, v363.toNat, 0, 0]
def k0_off12 (k0_t1 : Fin k0_t1_loop.trips) : Fin 5 → Nat :=
  let c0_224 : Index := 0#32
  let c3_225 : Index := 3#32
  let c0_i32_1 : BitVec 32 := 0#32
  let c1_i32 : BitVec 32 := 1#32
  let arg13 : BitVec 32 := Scf.iv c0_i32_1 c1_i32 k0_t1
  let v371 : Index := Scalar.indexCast arg13
  let c0_226 : Index := 0#32
  let c0_227 : Index := 0#32
  ![0, 3, v371.toNat, 0, 0]
def k0_off13 (k0_t1 : Fin k0_t1_loop.trips) : Fin 5 → Nat :=
  let c0_232 : Index := 0#32
  let c4_233 : Index := 4#32
  let c0_i32_1 : BitVec 32 := 0#32
  let c1_i32 : BitVec 32 := 1#32
  let arg13 : BitVec 32 := Scf.iv c0_i32_1 c1_i32 k0_t1
  let v379 : Index := Scalar.indexCast arg13
  let c0_234 : Index := 0#32
  let c0_235 : Index := 0#32
  ![0, 4, v379.toNat, 0, 0]
def k0_off14 (k0_t1 : Fin k0_t1_loop.trips) : Fin 5 → Nat :=
  let c0_240 : Index := 0#32
  let c5_241 : Index := 5#32
  let c0_i32_1 : BitVec 32 := 0#32
  let c1_i32 : BitVec 32 := 1#32
  let arg13 : BitVec 32 := Scf.iv c0_i32_1 c1_i32 k0_t1
  let v387 : Index := Scalar.indexCast arg13
  let c0_242 : Index := 0#32
  let c0_243 : Index := 0#32
  ![0, 5, v387.toNat, 0, 0]
def k0_off15 (k0_t1 : Fin k0_t1_loop.trips) : Fin 5 → Nat :=
  let c0_248 : Index := 0#32
  let c6_249 : Index := 6#32
  let c0_i32_1 : BitVec 32 := 0#32
  let c1_i32 : BitVec 32 := 1#32
  let arg13 : BitVec 32 := Scf.iv c0_i32_1 c1_i32 k0_t1
  let v395 : Index := Scalar.indexCast arg13
  let c0_250 : Index := 0#32
  let c0_251 : Index := 0#32
  ![0, 6, v395.toNat, 0, 0]
def k0_off16 (k0_t1 : Fin k0_t1_loop.trips) : Fin 5 → Nat :=
  let c0_256 : Index := 0#32
  let c7_257 : Index := 7#32
  let c0_i32_1 : BitVec 32 := 0#32
  let c1_i32 : BitVec 32 := 1#32
  let arg13 : BitVec 32 := Scf.iv c0_i32_1 c1_i32 k0_t1
  let v403 : Index := Scalar.indexCast arg13
  let c0_258 : Index := 0#32
  let c0_259 : Index := 0#32
  ![0, 7, v403.toNat, 0, 0]
def k0_off17 (k0_t1 : Fin k0_t1_loop.trips) (c0_i32_99 : BitVec 32) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v411 : Index := Scalar.indexCast v199
  let c0_261 : Index := 0#32
  ![v411.toNat, 0]
def k0_off18 (k0_t1 : Fin k0_t1_loop.trips) (c0_i32_262 : BitVec 32) : Fin 5 → Nat :=
  let c0_263 : Index := 0#32
  let c0_264 : Index := 0#32
  let c2_i32 : BitVec 32 := 2#32
  let c0_i32_1 : BitVec 32 := 0#32
  let c1_i32 : BitVec 32 := 1#32
  let arg13 : BitVec 32 := Scf.iv c0_i32_1 c1_i32 k0_t1
  let v415 : BitVec 32 := Scalar.muli c2_i32 arg13
  let v416 : BitVec 32 := Scalar.addi v415 c0_i32_262
  let v417 : Index := Scalar.indexCast v416
  let c0_265 : Index := 0#32
  let c0_266 : Index := 0#32
  ![0, 0, v417.toNat, 0, 0]
def k0_off19 (k0_t1 : Fin k0_t1_loop.trips) (c0_i32_99 : BitVec 32) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v430 : Index := Scalar.indexCast v199
  let c128_270 : Index := 128#32
  ![v430.toNat, 128]
def k0_off20 (k0_t1 : Fin k0_t1_loop.trips) (c0_i32_272 : BitVec 32) : Fin 5 → Nat :=
  let c0_273 : Index := 0#32
  let c1_274 : Index := 1#32
  let c2_i32_271 : BitVec 32 := 2#32
  let c0_i32_1 : BitVec 32 := 0#32
  let c1_i32 : BitVec 32 := 1#32
  let arg13 : BitVec 32 := Scf.iv c0_i32_1 c1_i32 k0_t1
  let v434 : BitVec 32 := Scalar.muli c2_i32_271 arg13
  let v435 : BitVec 32 := Scalar.addi v434 c0_i32_272
  let v436 : Index := Scalar.indexCast v435
  let c0_275 : Index := 0#32
  let c0_276 : Index := 0#32
  ![0, 1, v436.toNat, 0, 0]
def k0_off21 (k0_t1 : Fin k0_t1_loop.trips) (c0_i32_99 : BitVec 32) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v449 : Index := Scalar.indexCast v199
  let c256_280 : Index := 256#32
  ![v449.toNat, 256]
def k0_off22 (k0_t1 : Fin k0_t1_loop.trips) (c0_i32_282 : BitVec 32) : Fin 5 → Nat :=
  let c0_283 : Index := 0#32
  let c2_284 : Index := 2#32
  let c2_i32_281 : BitVec 32 := 2#32
  let c0_i32_1 : BitVec 32 := 0#32
  let c1_i32 : BitVec 32 := 1#32
  let arg13 : BitVec 32 := Scf.iv c0_i32_1 c1_i32 k0_t1
  let v453 : BitVec 32 := Scalar.muli c2_i32_281 arg13
  let v454 : BitVec 32 := Scalar.addi v453 c0_i32_282
  let v455 : Index := Scalar.indexCast v454
  let c0_285 : Index := 0#32
  let c0_286 : Index := 0#32
  ![0, 2, v455.toNat, 0, 0]
def k0_off23 (k0_t1 : Fin k0_t1_loop.trips) (c0_i32_99 : BitVec 32) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v468 : Index := Scalar.indexCast v199
  let c384_290 : Index := 384#32
  ![v468.toNat, 384]
def k0_off24 (k0_t1 : Fin k0_t1_loop.trips) (c0_i32_292 : BitVec 32) : Fin 5 → Nat :=
  let c0_293 : Index := 0#32
  let c3_294 : Index := 3#32
  let c2_i32_291 : BitVec 32 := 2#32
  let c0_i32_1 : BitVec 32 := 0#32
  let c1_i32 : BitVec 32 := 1#32
  let arg13 : BitVec 32 := Scf.iv c0_i32_1 c1_i32 k0_t1
  let v472 : BitVec 32 := Scalar.muli c2_i32_291 arg13
  let v473 : BitVec 32 := Scalar.addi v472 c0_i32_292
  let v474 : Index := Scalar.indexCast v473
  let c0_295 : Index := 0#32
  let c0_296 : Index := 0#32
  ![0, 3, v474.toNat, 0, 0]
def k0_off25 (k0_t1 : Fin k0_t1_loop.trips) (c0_i32_99 : BitVec 32) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v487 : Index := Scalar.indexCast v199
  let c512_300 : Index := 512#32
  ![v487.toNat, 512]
def k0_off26 (k0_t1 : Fin k0_t1_loop.trips) (c0_i32_302 : BitVec 32) : Fin 5 → Nat :=
  let c0_303 : Index := 0#32
  let c4_304 : Index := 4#32
  let c2_i32_301 : BitVec 32 := 2#32
  let c0_i32_1 : BitVec 32 := 0#32
  let c1_i32 : BitVec 32 := 1#32
  let arg13 : BitVec 32 := Scf.iv c0_i32_1 c1_i32 k0_t1
  let v491 : BitVec 32 := Scalar.muli c2_i32_301 arg13
  let v492 : BitVec 32 := Scalar.addi v491 c0_i32_302
  let v493 : Index := Scalar.indexCast v492
  let c0_305 : Index := 0#32
  let c0_306 : Index := 0#32
  ![0, 4, v493.toNat, 0, 0]
def k0_off27 (k0_t1 : Fin k0_t1_loop.trips) (c0_i32_99 : BitVec 32) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v506 : Index := Scalar.indexCast v199
  let c640_310 : Index := 640#32
  ![v506.toNat, 640]
def k0_off28 (k0_t1 : Fin k0_t1_loop.trips) (c0_i32_312 : BitVec 32) : Fin 5 → Nat :=
  let c0_313 : Index := 0#32
  let c5_314 : Index := 5#32
  let c2_i32_311 : BitVec 32 := 2#32
  let c0_i32_1 : BitVec 32 := 0#32
  let c1_i32 : BitVec 32 := 1#32
  let arg13 : BitVec 32 := Scf.iv c0_i32_1 c1_i32 k0_t1
  let v510 : BitVec 32 := Scalar.muli c2_i32_311 arg13
  let v511 : BitVec 32 := Scalar.addi v510 c0_i32_312
  let v512 : Index := Scalar.indexCast v511
  let c0_315 : Index := 0#32
  let c0_316 : Index := 0#32
  ![0, 5, v512.toNat, 0, 0]
def k0_off29 (k0_t1 : Fin k0_t1_loop.trips) (c0_i32_99 : BitVec 32) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v525 : Index := Scalar.indexCast v199
  let c768_320 : Index := 768#32
  ![v525.toNat, 768]
def k0_off30 (k0_t1 : Fin k0_t1_loop.trips) (c0_i32_322 : BitVec 32) : Fin 5 → Nat :=
  let c0_323 : Index := 0#32
  let c6_324 : Index := 6#32
  let c2_i32_321 : BitVec 32 := 2#32
  let c0_i32_1 : BitVec 32 := 0#32
  let c1_i32 : BitVec 32 := 1#32
  let arg13 : BitVec 32 := Scf.iv c0_i32_1 c1_i32 k0_t1
  let v529 : BitVec 32 := Scalar.muli c2_i32_321 arg13
  let v530 : BitVec 32 := Scalar.addi v529 c0_i32_322
  let v531 : Index := Scalar.indexCast v530
  let c0_325 : Index := 0#32
  let c0_326 : Index := 0#32
  ![0, 6, v531.toNat, 0, 0]
def k0_off31 (k0_t1 : Fin k0_t1_loop.trips) (c0_i32_99 : BitVec 32) : Fin 2 → Nat :=
  let c0_i32_1 : BitVec 32 := 0#32
  let c1_i32 : BitVec 32 := 1#32
  let arg13 : BitVec 32 := Scf.iv c0_i32_1 c1_i32 k0_t1
  let c128_i32 : BitVec 32 := 128#32
  let v197 : BitVec 32 := Scalar.muli arg13 c128_i32
  let v198 : BitVec 32 := v197
  let v199 : BitVec 32 := Scalar.addi v198 c0_i32_99
  let v544 : Index := Scalar.indexCast v199
  let c896_330 : Index := 896#32
  ![v544.toNat, 896]
def k0_off32 (k0_t1 : Fin k0_t1_loop.trips) (c0_i32_332 : BitVec 32) : Fin 5 → Nat :=
  let c0_333 : Index := 0#32
  let c7_334 : Index := 7#32
  let c2_i32_331 : BitVec 32 := 2#32
  let c0_i32_1 : BitVec 32 := 0#32
  let c1_i32 : BitVec 32 := 1#32
  let arg13 : BitVec 32 := Scf.iv c0_i32_1 c1_i32 k0_t1
  let v548 : BitVec 32 := Scalar.muli c2_i32_331 arg13
  let v549 : BitVec 32 := Scalar.addi v548 c0_i32_332
  let v550 : Index := Scalar.indexCast v549
  let c0_335 : Index := 0#32
  let c0_336 : Index := 0#32
  ![0, 7, v550.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16x8x2048x128 : Shape := ⟨4, ![16, 8, 2048, 128]⟩
abbrev S16x8x16x128x128 : Shape := ⟨5, ![16, 8, 16, 128, 128]⟩
abbrev S16x8x32x8x128 : Shape := ⟨5, ![16, 8, 32, 8, 128]⟩
abbrev S16x2048x5120 : Shape := ⟨3, ![16, 2048, 5120]⟩
abbrev S128 : Shape := ⟨1, ![128]⟩
abbrev S16x8x16x2x64x2x64 : Shape := ⟨7, ![16, 8, 16, 2, 64, 2, 64]⟩
abbrev S16x8x16x1x64x1x64 : Shape := ⟨7, ![16, 8, 16, 1, 64, 1, 64]⟩
abbrev S16x8x16x64x64 : Shape := ⟨5, ![16, 8, 16, 64, 64]⟩
abbrev S16x8x16x1x64x64 : Shape := ⟨6, ![16, 8, 16, 1, 64, 64]⟩
abbrev S16x8x16x2x64x64 : Shape := ⟨6, ![16, 8, 16, 2, 64, 64]⟩
abbrev S16x8x32x64x64 : Shape := ⟨5, ![16, 8, 32, 64, 64]⟩
abbrev S16x8x16x128x64 : Shape := ⟨5, ![16, 8, 16, 128, 64]⟩
abbrev S16x8x16x1x128x64 : Shape := ⟨6, ![16, 8, 16, 1, 128, 64]⟩
abbrev S16x8x16x2x128x64 : Shape := ⟨6, ![16, 8, 16, 2, 128, 64]⟩
abbrev S16x8x32x128x64 : Shape := ⟨5, ![16, 8, 32, 128, 64]⟩
abbrev S16x8x32x1x128 : Shape := ⟨5, ![16, 8, 32, 1, 128]⟩
abbrev S16x8x32x128 : Shape := ⟨4, ![16, 8, 32, 128]⟩
abbrev S16x8x32x64x128 : Shape := ⟨5, ![16, 8, 32, 64, 128]⟩
abbrev S32x16x8x64x128 : Shape := ⟨5, ![32, 16, 8, 64, 128]⟩
abbrev S32x16x8x128x64 : Shape := ⟨5, ![32, 16, 8, 128, 64]⟩
abbrev S32x16x8x128 : Shape := ⟨4, ![32, 16, 8, 128]⟩
abbrev S32x16x8x64x64 : Shape := ⟨5, ![32, 16, 8, 64, 64]⟩
abbrev S_ : Shape := ⟨0, ![]⟩
abbrev S16x8x128x128 : Shape := ⟨4, ![16, 8, 128, 128]⟩
abbrev S1x16x8x64x128 : Shape := ⟨5, ![1, 16, 8, 64, 128]⟩
abbrev S16x8x64x128 : Shape := ⟨4, ![16, 8, 64, 128]⟩
abbrev S1x16x8x128x64 : Shape := ⟨5, ![1, 16, 8, 128, 64]⟩
abbrev S16x8x128x64 : Shape := ⟨4, ![16, 8, 128, 64]⟩
abbrev S1x16x8x128 : Shape := ⟨4, ![1, 16, 8, 128]⟩
abbrev S16x8x128 : Shape := ⟨3, ![16, 8, 128]⟩
abbrev S1x16x8x64x64 : Shape := ⟨5, ![1, 16, 8, 64, 64]⟩
abbrev S16x8x64x64 : Shape := ⟨4, ![16, 8, 64, 64]⟩
abbrev S16x8x1x128 : Shape := ⟨4, ![16, 8, 1, 128]⟩
abbrev S16x32x64x8x128 : Shape := ⟨5, ![16, 32, 64, 8, 128]⟩
abbrev S16x2048x8x128 : Shape := ⟨4, ![16, 2048, 8, 128]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩
abbrev S16x2048x1024 : Shape := ⟨3, ![16, 2048, 1024]⟩

abbrev nBuf : Space → Nat
  | .hbm => 139
  | .vmem => 0
  | .smem => 0
  | _ => 0

abbrev hbmTy0_0 (i : Nat) : BufTy := match i % 128 with
  | 0 => ⟨S16x8x2048x128, .bf16⟩
  | 1 => ⟨S16x8x2048x128, .bf16⟩
  | 2 => ⟨S16x8x2048x128, .f32⟩
  | 3 => ⟨S16x8x2048x128, .bf16⟩
  | 4 => ⟨S16x8x16x128x128, .bf16⟩
  | 5 => ⟨S16x8x32x8x128, .f32⟩
  | 6 => ⟨S16x2048x5120, .f32⟩
  | 7 => ⟨S128, .f32⟩
  | 8 => ⟨S16x8x2048x128, .f32⟩
  | 9 => ⟨S16x8x16x2x64x2x64, .f32⟩
  | 10 => ⟨S16x8x16x1x64x1x64, .f32⟩
  | 11 => ⟨S16x8x16x64x64, .f32⟩
  | 12 => ⟨S16x8x16x1x64x1x64, .f32⟩
  | 13 => ⟨S16x8x16x64x64, .f32⟩
  | 14 => ⟨S16x8x16x1x64x64, .f32⟩
  | 15 => ⟨S16x8x16x1x64x64, .f32⟩
  | 16 => ⟨S16x8x16x2x64x64, .f32⟩
  | 17 => ⟨S16x8x32x64x64, .f32⟩
  | 18 => ⟨S16x8x16x128x128, .f32⟩
  | 19 => ⟨S16x8x16x128x64, .f32⟩
  | 20 => ⟨S16x8x16x128x64, .f32⟩
  | 21 => ⟨S16x8x16x1x128x64, .f32⟩
  | 22 => ⟨S16x8x16x1x128x64, .f32⟩
  | 23 => ⟨S16x8x16x2x128x64, .f32⟩
  | 24 => ⟨S16x8x32x128x64, .f32⟩
  | 25 => ⟨S16x8x32x1x128, .f32⟩
  | 26 => ⟨S16x8x32x128, .f32⟩
  | 27 => ⟨S16x8x2048x128, .f32⟩
  | 28 => ⟨S16x8x32x64x128, .f32⟩
  | 29 => ⟨S16x8x32x64x128, .f32⟩
  | 30 => ⟨S16x8x2048x128, .f32⟩
  | 31 => ⟨S16x8x32x64x128, .f32⟩
  | 32 => ⟨S32x16x8x64x128, .f32⟩
  | 33 => ⟨S32x16x8x128x64, .f32⟩
  | 34 => ⟨S32x16x8x64x128, .f32⟩
  | 35 => ⟨S32x16x8x64x128, .f32⟩
  | 36 => ⟨S32x16x8x128, .f32⟩
  | 37 => ⟨S32x16x8x64x64, .f32⟩
  | 38 => ⟨S_, .f32⟩
  | 39 => ⟨S16x8x128x128, .f32⟩
  | 40 => ⟨S_, .f32⟩
  | 41 => ⟨S32x16x8x64x128, .f32⟩
  | 42 => ⟨S_, .i32⟩
  | 43 => ⟨S32x16x8x64x128, .f32⟩
  | 44 => ⟨S32x16x8x128x64, .f32⟩
  | 45 => ⟨S32x16x8x64x128, .f32⟩
  | 46 => ⟨S32x16x8x64x128, .f32⟩
  | 47 => ⟨S32x16x8x128, .f32⟩
  | 48 => ⟨S32x16x8x64x64, .f32⟩
  | 49 => ⟨S_, .i32⟩
  | 50 => ⟨S16x8x128x128, .f32⟩
  | 51 => ⟨S32x16x8x64x128, .f32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S1x16x8x64x128, .f32⟩
  | 59 => ⟨S16x8x64x128, .f32⟩
  | 60 => ⟨S_, .i32⟩
  | 61 => ⟨S_, .i32⟩
  | 62 => ⟨S_, .i32⟩
  | 63 => ⟨S_, .i32⟩
  | 64 => ⟨S1x16x8x128x64, .f32⟩
  | 65 => ⟨S16x8x128x64, .f32⟩
  | 66 => ⟨S_, .i32⟩
  | 67 => ⟨S_, .i32⟩
  | 68 => ⟨S_, .i32⟩
  | 69 => ⟨S_, .i32⟩
  | 70 => ⟨S1x16x8x64x128, .f32⟩
  | 71 => ⟨S16x8x64x128, .f32⟩
  | 72 => ⟨S_, .i32⟩
  | 73 => ⟨S_, .i32⟩
  | 74 => ⟨S_, .i32⟩
  | 75 => ⟨S_, .i32⟩
  | 76 => ⟨S1x16x8x64x128, .f32⟩
  | 77 => ⟨S16x8x64x128, .f32⟩
  | 78 => ⟨S_, .i32⟩
  | 79 => ⟨S_, .i32⟩
  | 80 => ⟨S_, .i32⟩
  | 81 => ⟨S1x16x8x128, .f32⟩
  | 82 => ⟨S16x8x128, .f32⟩
  | 83 => ⟨S_, .i32⟩
  | 84 => ⟨S_, .i32⟩
  | 85 => ⟨S_, .i32⟩
  | 86 => ⟨S_, .i32⟩
  | 87 => ⟨S1x16x8x64x64, .f32⟩
  | 88 => ⟨S16x8x64x64, .f32⟩
  | 89 => ⟨S16x8x64x128, .f32⟩
  | 90 => ⟨S16x8x64x128, .f32⟩
  | 91 => ⟨S16x8x64x128, .f32⟩
  | 92 => ⟨S16x8x64x128, .f32⟩
  | 93 => ⟨S16x8x64x128, .f32⟩
  | 94 => ⟨S16x8x1x128, .f32⟩
  | 95 => ⟨S16x8x128x128, .f32⟩
  | 96 => ⟨S16x8x128x128, .f32⟩
  | 97 => ⟨S16x8x128x128, .f32⟩
  | 98 => ⟨S16x8x128x128, .f32⟩
  | 99 => ⟨S1x16x8x64x128, .f32⟩
  | 100 => ⟨S_, .i32⟩
  | 101 => ⟨S_, .i32⟩
  | 102 => ⟨S_, .i32⟩
  | 103 => ⟨S_, .i32⟩
  | 104 => ⟨S32x16x8x64x128, .f32⟩
  | 105 => ⟨S_, .i32⟩
  | 106 => ⟨S_, .i32⟩
  | 107 => ⟨S16x32x64x8x128, .f32⟩
  | 108 => ⟨S16x2048x8x128, .f32⟩
  | 109 => ⟨S16x2048x8x128, .f32⟩
  | 110 => ⟨S_, .f32⟩
  | 111 => ⟨S16x2048x8, .f32⟩
  | 112 => ⟨S16x2048x8x1, .f32⟩
  | 113 => ⟨S_, .f32⟩
  | 114 => ⟨S16x2048x8x1, .f32⟩
  | 115 => ⟨S16x2048x8x1, .f32⟩
  | 116 => ⟨S_, .f32⟩
  | 117 => ⟨S16x2048x8x1, .f32⟩
  | 118 => ⟨S16x2048x8x1, .f32⟩
  | 119 => ⟨S16x2048x8x1, .f32⟩
  | 120 => ⟨S16x2048x8x128, .f32⟩
  | 121 => ⟨S16x2048x8x128, .f32⟩
  | 122 => ⟨S1x1x1x128, .f32⟩
  | 123 => ⟨S16x2048x8x128, .f32⟩
  | 124 => ⟨S16x2048x8x128, .f32⟩
  | 125 => ⟨S16x2048x1024, .f32⟩
  | 126 => ⟨S16x2048x8x128, .f32⟩
  | 127 => ⟨S16x2048x8x128, .f32⟩
  | _ => ⟨S16x8x2048x128, .bf16⟩

abbrev hbmTy0_1 (i : Nat) : BufTy := match i % 128 with
  | 0 => ⟨S16x2048x8x128, .f32⟩
  | 1 => ⟨S_, .f32⟩
  | 2 => ⟨S16x2048x8x128, .f32⟩
  | 3 => ⟨S16x2048x8x128, .f32⟩
  | 4 => ⟨S_, .f32⟩
  | 5 => ⟨S16x2048x8x128, .f32⟩
  | 6 => ⟨S16x2048x8x128, .f32⟩
  | 7 => ⟨S16x2048x8x128, .f32⟩
  | 8 => ⟨S16x2048x8x128, .f32⟩
  | 9 => ⟨S16x2048x1024, .f32⟩
  | 10 => ⟨S16x2048x1024, .bf16⟩
  | _ => ⟨S16x8x2048x128, .bf16⟩

abbrev hbmTy (i : Nat) : BufTy := match i / 128 with
  | 0 => hbmTy0_0 i
  | 1 => hbmTy0_1 i
  | _ => ⟨S16x8x2048x128, .bf16⟩

abbrev bufTy : (tb : Table) → Fin (tcTables nBuf tb) → BufTy
  | .hbm, ⟨i, _⟩ => hbmTy i
  | _, _ => ⟨S16x8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_c : Ref sig .tc := ⟨.hbm, 42, rfl⟩
abbrev main_v32_0 : Ref sig .tc := ⟨.hbm, 43, rfl⟩
abbrev main_v32_1 : Ref sig .tc := ⟨.hbm, 44, rfl⟩
abbrev main_v32_2 : Ref sig .tc := ⟨.hbm, 45, rfl⟩
abbrev main_v32_3 : Ref sig .tc := ⟨.hbm, 46, rfl⟩
abbrev main_v32_4 : Ref sig .tc := ⟨.hbm, 47, rfl⟩
abbrev main_v32_5 : Ref sig .tc := ⟨.hbm, 48, rfl⟩
abbrev main_v32_6 : Ref sig .tc := ⟨.hbm, 49, rfl⟩
abbrev main_v32_7 : Ref sig .tc := ⟨.hbm, 50, rfl⟩
abbrev main_v32_8 : Ref sig .tc := ⟨.hbm, 51, rfl⟩
abbrev main_while0c_c_14 : Ref sig .tc := ⟨.hbm, 52, rfl⟩
abbrev main_while0c_v60 : Ref sig .tc := ⟨.hbm, 53, rfl⟩
abbrev main_while0b_call0_c : Ref sig .tc := ⟨.hbm, 54, rfl⟩
abbrev main_while0b_call0_c_0 : Ref sig .tc := ⟨.hbm, 55, rfl⟩
abbrev main_while0b_call0_c_1 : Ref sig .tc := ⟨.hbm, 56, rfl⟩
abbrev main_while0b_call0_c_2 : Ref sig .tc := ⟨.hbm, 57, rfl⟩
abbrev main_while0b_call0_v0 : Ref sig .tc := ⟨.hbm, 58, rfl⟩
abbrev main_while0b_v60 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_c_2 : Ref sig .tc := ⟨.hbm, 63, rfl⟩
abbrev main_while0b_call1_v0 : Ref sig .tc := ⟨.hbm, 64, rfl⟩
abbrev main_while0b_v61 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_c_2 : Ref sig .tc := ⟨.hbm, 69, rfl⟩
abbrev main_while0b_call2_v0 : Ref sig .tc := ⟨.hbm, 70, rfl⟩
abbrev main_while0b_v62 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_call3_c_2 : Ref sig .tc := ⟨.hbm, 75, rfl⟩
abbrev main_while0b_call3_v0 : Ref sig .tc := ⟨.hbm, 76, rfl⟩
abbrev main_while0b_v63 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_c_1 : Ref sig .tc := ⟨.hbm, 80, rfl⟩
abbrev main_while0b_call4_v0 : Ref sig .tc := ⟨.hbm, 81, rfl⟩
abbrev main_while0b_v64 : Ref sig .tc := ⟨.hbm, 82, rfl⟩
abbrev main_while0b_call5_c : Ref sig .tc := ⟨.hbm, 83, rfl⟩
abbrev main_while0b_call5_c_0 : Ref sig .tc := ⟨.hbm, 84, rfl⟩
abbrev main_while0b_call5_c_1 : Ref sig .tc := ⟨.hbm, 85, rfl⟩
abbrev main_while0b_call5_c_2 : Ref sig .tc := ⟨.hbm, 86, rfl⟩
abbrev main_while0b_call5_v0 : Ref sig .tc := ⟨.hbm, 87, rfl⟩
abbrev main_while0b_v65 : Ref sig .tc := ⟨.hbm, 88, rfl⟩
abbrev main_while0b_v66 : Ref sig .tc := ⟨.hbm, 89, rfl⟩
abbrev main_while0b_v67 : Ref sig .tc := ⟨.hbm, 90, rfl⟩
abbrev main_while0b_v68 : Ref sig .tc := ⟨.hbm, 91, rfl⟩
abbrev main_while0b_v69 : Ref sig .tc := ⟨.hbm, 92, rfl⟩
abbrev main_while0b_v70 : Ref sig .tc := ⟨.hbm, 93, rfl⟩
abbrev main_while0b_v71 : Ref sig .tc := ⟨.hbm, 94, rfl⟩
abbrev main_while0b_v72 : Ref sig .tc := ⟨.hbm, 95, rfl⟩
abbrev main_while0b_v73 : Ref sig .tc := ⟨.hbm, 96, rfl⟩
abbrev main_while0b_v74 : Ref sig .tc := ⟨.hbm, 97, rfl⟩
abbrev main_while0b_v75 : Ref sig .tc := ⟨.hbm, 98, rfl⟩
abbrev main_while0b_call6_v0 : Ref sig .tc := ⟨.hbm, 99, rfl⟩
abbrev main_while0b_call6_c : Ref sig .tc := ⟨.hbm, 100, rfl⟩
abbrev main_while0b_call6_c_0 : Ref sig .tc := ⟨.hbm, 101, rfl⟩
abbrev main_while0b_call6_c_1 : Ref sig .tc := ⟨.hbm, 102, rfl⟩
abbrev main_while0b_call6_c_2 : Ref sig .tc := ⟨.hbm, 103, rfl⟩
abbrev main_while0b_v76 : Ref sig .tc := ⟨.hbm, 104, rfl⟩
abbrev main_while0b_c_14 : Ref sig .tc := ⟨.hbm, 105, rfl⟩
abbrev main_while0b_v77 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_cst_1 : Ref sig .tc := ⟨.hbm, 110, rfl⟩
abbrev main_v36 : Ref sig .tc := ⟨.hbm, 111, rfl⟩
abbrev main_v37 : Ref sig .tc := ⟨.hbm, 112, rfl⟩
abbrev main_cst_2 : Ref sig .tc := ⟨.hbm, 113, rfl⟩
abbrev main_v38 : Ref sig .tc := ⟨.hbm, 114, rfl⟩
abbrev main_v39 : Ref sig .tc := ⟨.hbm, 115, rfl⟩
abbrev main_cst_3 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v50 : Ref sig .tc := ⟨.hbm, 127, rfl⟩
abbrev main_v51 : Ref sig .tc := ⟨.hbm, 128, rfl⟩
abbrev main_cst_4 : Ref sig .tc := ⟨.hbm, 129, rfl⟩
abbrev main_v52 : Ref sig .tc := ⟨.hbm, 130, rfl⟩
abbrev main_v53 : Ref sig .tc := ⟨.hbm, 131, rfl⟩
abbrev main_cst_5 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S32768x2048 : Shape := ⟨2, ![32768, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S32768x8192 : Shape := ⟨2, ![32768, 8192]⟩
abbrev S1x2048x1024 : Shape := ⟨3, ![1, 2048, 1024]⟩
abbrev S1024x1024 : Shape := ⟨2, ![1024, 1024]⟩
abbrev S2x1024x2048 : Shape := ⟨3, ![2, 1024, 2048]⟩
abbrev S2 : Shape := ⟨1, ![2]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x8192, .bf16⟩
  | .hbm, ⟨2, _⟩ => ⟨S2048x8x1024, .bf16⟩
  | .hbm, ⟨3, _⟩ => ⟨S8x2048x1024, .bf16⟩
  | .hbm, ⟨4, _⟩ => ⟨S32768x8192, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x1024x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_14 : BitVec 32 := 0#32
  let c0_i32_15 : BitVec 32 := 0#32
  ![v9.toNat, 0, 0]
def k0_off3 (i : grid0.Coords) : Fin 2 → Nat :=
  let arg0 : BitVec 32 := BitVec.ofNat 32 (i 0).val
  let c1024_i32 : BitVec 32 := 1024#32
  let v27 : BitVec 32 := Scalar.muli arg0 c1024_i32
  let c0_i32_16 : BitVec 32 := 0#32
  ![v27.toNat, 0]
def k0_cond3 (i : grid0.Coords) : BitVec 1 :=
  let arg0 : BitVec 32 := BitVec.ofNat 32 (i 0).val
  let c1_i32_17 : BitVec 32 := 1#32
  let v33 : BitVec 32 := Scalar.addi arg0 c1_i32_17
  let c32_i32 : BitVec 32 := 32#32
  let v34 : BitVec 1 := Scalar.cmpi .slt v33 c32_i32
  let v35 : BitVec 32 := Scalar.extui v34
  let c0_i32_18 : BitVec 32 := 0#32
  let v36 : BitVec 1 := Scalar.cmpi .ne v35 c0_i32_18
  v36

def k0_off4 (i : grid0.Coords) : Fin 1 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v38 : BitVec 32 := Scalar.subi c1_i32_20 v9
  ![v38.toNat]
def k0_off5 (i : grid0.Coords) : Fin 3 → Nat :=
  let c1_i32_20 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v38 : BitVec 32 := Scalar.subi c1_i32_20 v9
  let c0_i32_22 : BitVec 32 := 0#32
  let c0_i32_23 : BitVec 32 := 0#32
  ![v38.toNat, 0, 0]
def k0_off6 (i : grid0.Coords) : Fin 2 → Nat :=
  let arg0 : BitVec 32 := BitVec.ofNat 32 (i 0).val
  let c1_i32_19 : BitVec 32 := 1#32
  let v37 : BitVec 32 := Scalar.addi arg0 c1_i32_19
  let c1024_i32_21 : BitVec 32 := 1024#32
  let v39 : BitVec 32 := Scalar.muli v37 c1024_i32_21
  let c0_i32_24 : BitVec 32 := 0#32
  ![v39.toNat, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v13 : Index := Scalar.indexCast v9
  let c0 : Index := 0#32
  let c0_5 : Index := 0#32
  ![v13.toNat, 0, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference2Ideal.lean ====
abbrev S32768x2048 : Shape := ⟨2, ![32768, 2048]⟩
abbrev S2048x8192 : Shape := ⟨2, ![2048, 8192]⟩
abbrev S32768x8192 : Shape := ⟨2, ![32768, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x8192, .bf16⟩
  | .hbm, ⟨2, _⟩ => ⟨S32768x2048, .f32⟩
  | .hbm, ⟨3, _⟩ => ⟨S2048x8192, .f32⟩
  | .hbm, ⟨4, _⟩ => ⟨S32768x8192, .f32⟩
  | .hbm, ⟨5, _⟩ => ⟨S_, .f32⟩
  | .hbm, ⟨6, _⟩ => ⟨S32768x8192, .f32⟩
  | .hbm, ⟨7, _⟩ => ⟨S32768x8192, .f32⟩
  | .hbm, ⟨8, _⟩ => ⟨S32768x8192, .f32⟩
  | .hbm, ⟨9, _⟩ => ⟨S32768x8192, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel3.lean ====
abbrev S32768x8192 : Shape := ⟨2, ![32768, 8192]⟩
abbrev S8192x2048 : Shape := ⟨2, ![8192, 2048]⟩
abbrev S32768x2048 : Shape := ⟨2, ![32768, 2048]⟩
abbrev S8192x8x256 : Shape := ⟨3, ![8192, 8, 256]⟩
abbrev S8x8192x256 : Shape := ⟨3, ![8, 8192, 256]⟩
abbrev S1x8192x256 : Shape := ⟨3, ![1, 8192, 256]⟩
abbrev S1024x256 : Shape := ⟨2, ![1024, 256]⟩
abbrev S2x1024x8192 : Shape := ⟨3, ![2, 1024, 8192]⟩
abbrev S2 : Shape := ⟨1, ![2]⟩
abbrev S1 : Shape := ⟨1, ![1]⟩
abbrev S_ : Shape := ⟨0, ![]⟩
abbrev S1x1024x8192 : Shape := ⟨3, ![1, 1024, 8192]⟩
abbrev S1024x8192 : Shape := ⟨2, ![1024, 8192]⟩
abbrev S8192x256 : Shape := ⟨2, ![8192, 256]⟩

abbrev nBuf : Space → Nat
  | .hbm => 6
  | .vmem => 7
  | .smem => 0
  | _ => 0

abbrev bufTy : (tb : Table) → Fin (tcTables nBuf tb) → BufTy
  | .hbm, ⟨0, _⟩ => ⟨S32768x8192, .bf16⟩
  | .hbm, ⟨1, _⟩ => ⟨S8192x2048, .bf16⟩
  | .hbm, ⟨2, _⟩ => ⟨S32768x2048, .f32⟩
  | .hbm, ⟨3, _⟩ => ⟨S8192x8x256, .bf16⟩
  | .hbm, ⟨4, _⟩ => ⟨S8x8192x256, .bf16⟩
  | .hbm, ⟨5, _⟩ => ⟨S32768x2048, .f32⟩
  | .local _ .vmem, ⟨0, _⟩ => ⟨S1x8192x256, .bf16⟩
  | .local _ .vmem, ⟨1, _⟩ => ⟨S1x8192x256, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S2x1024x8192, .bf16⟩
  | _, _ => ⟨S32768x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_15 : BitVec 32 := 0#32
  let c0_i32_16 : BitVec 32 := 0#32
  ![v9.toNat, 0, 0]
def k0_off3 (i : grid0.Coords) : Fin 2 → Nat :=
  let arg0 : BitVec 32 := BitVec.ofNat 32 (i 0).val
  let c1024_i32 : BitVec 32 := 1024#32
  let v25 : BitVec 32 := Scalar.muli arg0 c1024_i32
  let c0_i32_17 : BitVec 32 := 0#32
  ![v25.toNat, 0]
def k0_cond3 (i : grid0.Coords) : BitVec 1 :=
  let arg0 : BitVec 32 := BitVec.ofNat 32 (i 0).val
  let c1_i32_18 : BitVec 32 := 1#32
  let v31 : BitVec 32 := Scalar.addi arg0 c1_i32_18
  let c32_i32 : BitVec 32 := 32#32
  let v32 : BitVec 1 := Scalar.cmpi .slt v31 c32_i32
  let v33 : BitVec 32 := Scalar.extui v32
  let c0_i32_19 : BitVec 32 := 0#32
  let v34 : BitVec 1 := Scalar.cmpi .ne v33 c0_i32_19
  v34

def k0_off4 (i : grid0.Coords) : Fin 1 → Nat :=
  let c1_i32_21 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_21 v9
  ![v36.toNat]
def k0_off5 (i : grid0.Coords) : Fin 3 → Nat :=
  let c1_i32_21 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v36 : BitVec 32 := Scalar.subi c1_i32_21 v9
  let c0_i32_23 : BitVec 32 := 0#32
  let c0_i32_24 : BitVec 32 := 0#32
  ![v36.toNat, 0, 0]
def k0_off6 (i : grid0.Coords) : Fin 2 → Nat :=
  let arg0 : BitVec 32 := BitVec.ofNat 32 (i 0).val
  let c1_i32_20 : BitVec 32 := 1#32
  let v35 : BitVec 32 := Scalar.addi arg0 c1_i32_20
  let c1024_i32_22 : BitVec 32 := 1024#32
  let v37 : BitVec 32 := Scalar.muli v35 c1024_i32_22
  let c0_i32_25 : BitVec 32 := 0#32
  ![v37.toNat, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v13 : Index := Scalar.indexCast v9
  let c0 : Index := 0#32
  let c0_5 : Index := 0#32
  ![v13.toNat, 0, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x8192 : Shape := ⟨2, ![32768, 8192]⟩
abbrev S8192x2048 : Shape := ⟨2, ![8192, 2048]⟩
abbrev S32768x2048 : Shape := ⟨2, ![32768, 2048]⟩

abbrev nBuf : Space → Nat
  | .hbm => 7
  | .vmem => 0
  | .smem => 0
  | _ => 0

abbrev bufTy : (tb : Table) → Fin (tcTables nBuf tb) → BufTy
  | .hbm, ⟨0, _⟩ => ⟨S32768x8192, .bf16⟩
  | .hbm, ⟨1, _⟩ => ⟨S8192x2048, .bf16⟩
  | .hbm, ⟨2, _⟩ => ⟨S32768x2048, .f32⟩
  | .hbm, ⟨3, _⟩ => ⟨S32768x8192, .f32⟩
  | .hbm, ⟨4, _⟩ => ⟨S8192x2048, .f32⟩
  | .hbm, ⟨5, _⟩ => ⟨S32768x2048, .f32⟩
  | .hbm, ⟨6, _⟩ => ⟨S32768x2048, .f32⟩
  | _, _ => ⟨S32768x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S2048, .f32⟩
  | .hbm, ⟨4, _⟩ => ⟨S1x2048, .f32⟩
  | .hbm, ⟨5, _⟩ => ⟨S32768x2048, .f32⟩
  | .hbm, ⟨6, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S2048, .f32⟩
  | .hbm, ⟨4, _⟩ => ⟨S32768x2048, .f32⟩
  | .hbm, ⟨5, _⟩ => ⟨S2048x2048, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S32768x1024 : Shape := ⟨2, ![32768, 1024]⟩
abbrev S1024x2048 : Shape := ⟨2, ![1024, 2048]⟩
abbrev S32768x6144 : Shape := ⟨2, ![32768, 6144]⟩
abbrev S32768x2048 : Shape := ⟨2, ![32768, 2048]⟩
abbrev S1024x1024 : Shape := ⟨2, ![1024, 1024]⟩
abbrev S1024x512 : Shape := ⟨2, ![1024, 512]⟩

abbrev nBuf : Space → Nat
  | .hbm => 6
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x2048, .bf16⟩
  | .hbm, ⟨3, _⟩ => ⟨S1024x2048, .bf16⟩
  | .hbm, ⟨4, _⟩ => ⟨S32768x6144, .bf16⟩
  | .hbm, ⟨5, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S32768x1024 : Shape := ⟨2, ![32768, 1024]⟩
abbrev S1024x2048 : Shape := ⟨2, ![1024, 2048]⟩
abbrev S32768x6144 : Shape := ⟨2, ![32768, 6144]⟩
abbrev S32768x4096 : Shape := ⟨2, ![32768, 4096]⟩
abbrev S_ : Shape := ⟨0, ![]⟩
abbrev S32768x2048 : Shape := ⟨2, ![32768, 2048]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S1024x2048, .bf16⟩
  | .hbm, ⟨3, _⟩ => ⟨S1024x2048, .bf16⟩
  | .hbm, ⟨4, _⟩ => ⟨S32768x6144, .bf16⟩
  | .hbm, ⟨5, _⟩ => ⟨S32768x4096, .bf16⟩
  | .hbm, ⟨6, _⟩ => ⟨S32768x4096, .f32⟩
  | .hbm, ⟨7, _⟩ => ⟨S32768x4096, .f32⟩
  | .hbm, ⟨8, _⟩ => ⟨S32768x4096, .f32⟩
  | .hbm, ⟨9, _⟩ => ⟨S_, .f32⟩
  | .hbm, ⟨10, _⟩ => ⟨S32768x4096, .f32⟩
  | .hbm, ⟨11, _⟩ => ⟨S32768x4096, .f32⟩
  | .hbm, ⟨12, _⟩ => ⟨S_, .f32⟩
  | .hbm, ⟨13, _⟩ => ⟨S32768x4096, .f32⟩
  | .hbm, ⟨14, _⟩ => ⟨S32768x4096, .f32⟩
  | .hbm, ⟨15, _⟩ => ⟨S32768x2048, .f32⟩
  | .hbm, ⟨16, _⟩ => ⟨S32768x2048, .f32⟩
  | .hbm, ⟨17, _⟩ => ⟨S32768x1024, .f32⟩
  | .hbm, ⟨18, _⟩ => ⟨S32768x1024, .f32⟩
  | .hbm, ⟨19, _⟩ => ⟨S1024x2048, .f32⟩
  | .hbm, ⟨20, _⟩ => ⟨S1024x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel6.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.UpValue.lean ====
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

/-! The FFN's up projection call: the array its tiles fill is the reference's squared ReLU of the product. -/

set_option maxRecDepth 16384

noncomputable section

namespace Cert.Kernel2Ideal.Up

open Idealize.ShloMosaic Idealize.ShloMosaic.TcCoe Idealize.SL.Sem
open Idealize.ShloMosaic.Pipeline (Dat)
open Cert.Kernel2Ideal Cert.Kernel2Ideal.Gen

/-- The FFN's up projection under the squared ReLU: the reference's own operations. -/
abbrev activated (H : FVec Ideal S32768x2048 .bf16) (W : FVec Ideal S2048x8192 .bf16) : FVec Ideal S32768x8192 .bf16 :=
  let a : FVec Ideal Cert.Reference2Ideal.S32768x8192 .f32 :=
    maximumf (Host.dotGeneral Cert.Reference2Ideal.dot_S32768x2048_S2048x8192_S32768x8192_1_0_0_1_n_n none
      (extf .f32 H Cert.Reference2Ideal.Gen.bitsLt_bf16_f32) (extf .f32 W Cert.Reference2Ideal.Gen.bitsLt_bf16_f32))
      (broadcastInDim Cert.Reference2Ideal.S32768x8192 ![] Cert.Reference2Ideal.Gen.bcast_S_S32768x8192
        (constant Cert.Reference2Ideal.S_ .f32 0x00000000#32))
  truncf .bf16 (mulf a a) Cert.Reference2Ideal.Gen.bitsLt_bf16_f32

variable (m : (ℓ : Loc nD τ sig) → Buf (Elt Ideal) ℓ)

theorem idx : ∀ t : Fin cfg0.N, win0_0.index t = ![t.val % 8, 0, 0] ∧ win0_1.index t = ![t.val / 8, t.val % 8] :=
  (by decide +kernel : ∀ t : Fin grid0.N, _)

/-- The slot the body reads at point `t` is the parity of its row of tiles. -/
theorem off : ∀ t : Fin cfg0.N, k0_off7 (grid0.coords t) = ![t.val / 8 % 2, 0, 0] :=
  (by decide +kernel : ∀ t : Fin grid0.N, _)

/-- The row tile `b` of the streamed operand, as the body loads it. -/
def rows (c : Dev nD) (b : ℕ) (hb : b < 32) : Vec Ideal S1x1024x2048 .bf16 :=
  fun x => m ((c : Thread nD τ).loc main_arg0) (ix2 (⟨1024 * b + (x 1).val, by have h : (x 1).val < 1024 := (x 1).isLt; omega⟩ : Fin 32768) (x 2 : Fin 2048))

theorem shapeCast_at (v : Vec Ideal S1x1024x2048 .bf16) (x : S1x1024x2048.Idx) :
    shapeCast S1024x2048 v shapeCasts_S1x1024x2048_S1024x2048 (ix2 (x 1 : Fin 1024) (x 2 : Fin 2048)) = v x := by
  pointwise

/-- A slot read through its own view is the same elements read through the whole buffer. -/
theorem slot_view (s : Fin 2) (inb : ∀ a, (![s.val, 0, 0] : Fin 3 → ℕ) a + S1x1024x2048.size a ≤ S2x1024x2048.size a)
    (g : (rslot0_0 s).view.ty.Contents (Elt Ideal)) :
    (rslot0_0 s).view.read (Elt Ideal) g = shapeCast S1024x2048 (View.readAt (Elt Ideal) (View.whole cc0_scratch0)
      (Rect.unit (s := S2x1024x2048) ![s.val, 0, 0] S1x1024x2048.size inb).toLoadRect g) shapeCasts_S1x1024x2048_S1024x2048 :=
  Memref.read_squeeze_slice scM0_0 (Rect.unit (s := S2x1024x2048) ![s.val, 0, 0] S1x1024x2048.size inb) (fun _ => rfl)
    squeezes_S1x1024x2048_S1024x2048 shapeCasts_S1x1024x2048_S1024x2048 g

/-- A slot filled whole with `w`, loaded whole, is `w`. -/
theorem slot_read (s : Fin 2) (off : Fin 3 → ℕ) (hoff : off = ![s.val, 0, 0])
    (inb : ∀ a, off a + S1x1024x2048.size a ≤ S2x1024x2048.size a) (f : (rslot0_0 s).view.ty.Contents (Elt Ideal))
    (w : S1024x2048.Idx → Elt Ideal .bf16) (x : S1x1024x2048.Idx) :
    View.readAt (Elt Ideal) (View.whole cc0_scratch0) (Rect.unit (s := S2x1024x2048) off S1x1024x2048.size inb).toLoadRect
      ((rslot0_0 s).view.writes (Elt Ideal) f [⟨Rect.whole S1024x2048, w⟩]) x = w (ix2 (x 1 : Fin 1024) (x 2 : Fin 2048)) := by
  subst hoff
  have h := View.read_writes_whole (rslot0_0 s).view f w
  generalize (rslot0_0 s).view.writes (Elt Ideal) f [⟨Rect.whole S1024x2048, w⟩] = g at h ⊢
  rw [slot_view s inb g] at h
  rw [← h, shapeCast_at]

/-- A row tile of the streamed operand, read through the window its transfer names. -/
theorem src_read (c : Dev nD) (b : Fin 32) (x : S1024x2048.Idx) :
    (srcB0_0 b).view.read (Elt Ideal) (V m c main_arg0) x = m ((c : Thread nD τ).loc main_arg0)
      (Rect.emb (Rect.unit (s := S32768x2048) ![1024 * b.val, 0] S1024x2048.size (inb_src0_0 b)) x) := rfl

/-- The body's load at a point whose slot holds the row tile `b`. -/
theorem slot_rows (c : Dev nD) (s : Fin 2) (b : Fin 32) (n : ℕ) (hn : n < 32) (hs : s.val = n % 2) (hb : b.val = n) (off : Fin 3 → ℕ)
    (hoff : off = ![n % 2, 0, 0])
    (inb : ∀ a, off a + S1x1024x2048.size a ≤ S2x1024x2048.size a) (f : (rslot0_0 s).view.ty.Contents (Elt Ideal)) :
    View.readAt (Elt Ideal) (View.whole cc0_scratch0) (Rect.unit (s := S2x1024x2048) off S1x1024x2048.size inb).toLoadRect
      ((rslot0_0 s).view.writes (Elt Ideal) f
        [⟨Rect.whole S1024x2048, ReadAs.same.apply ((srcB0_0 b).view.read (Elt Ideal) (V m c main_arg0))⟩])
      = rows m c n hn := by
  subst hb
  funext x
  rw [slot_read s off (by rw [hoff, hs]) inb f]
  show (srcB0_0 b).view.read (Elt Ideal) (V m c main_arg0) _ = _
  rw [src_read]
  refine congrArg _ (funext fun a => ?_)
  fin_cases a
  · exact Fin.ext (show 1024 * b.val + 1 * (x 1).val = 1024 * b.val + (x 1).val by omega)
  · exact Fin.ext (show 0 + 1 * (x 2).val = (x 2).val by omega)

/-- What the output's tile holds after point `t`: the payload over the row tile and the weight tile. -/
theorem outs (c : Dev nD) (t : Fin cfg0.N) :
    outsAt0 m c t.val t.isLt = k0_pay1 (F := Ideal) (rows m c (t.val / 8) (by have h := lt_of_lt_of_eq t.isLt N_0; omega)) (iblk m c 0 t) := by
  have ht := lt_of_lt_of_eq t.isLt N_0
  funext y
  by_cases h0 : t.val % 8 = 0
  · by_cases h1 : t.val < 8
    on_goal 1 => rw [outsAt0_A m c t h0 h1 (by omega)]
    on_goal 2 =>
      by_cases h2 : t.val < 248
      on_goal 1 => rw [outsAt0_C m c t h0 h1 h2]
      on_goal 2 => rw [outsAt0_D m c t h0 h1 h2]
    all_goals
      frame_out
      exact congrFun (congrArg (fun z => k0_pay1 z (iblk m c 0 t)) (slot_rows m c _ _ _ _
        (by rw [Fin.val_ofNat, ringStep0_0]; omega) (by rw [Ring.bk_val (by rw [ringStep0_0]; omega), ringStep0_0]; omega) _ (off t) _ _)) y
  · rw [outsAt0_B m c t h0]
    frame_out
    exact congrFun (congrArg (fun z => k0_pay1 z (iblk m c 0 t)) (slot_rows m c _ _ _ _
      (by rw [Fin.val_ofNat, ringStep0_0]; omega) (by rw [Ring.bk_val (by rw [ringStep0_0]; omega), ringStep0_0]; omega) _ (off t) _ _)) y

/-- What point `t` stores at an index of its tile is the result at the index it sits at. -/
theorem point (c : Dev nD) (t : Fin cfg0.N) (y : S1024x1024.Idx) :
    k0_pay1 (F := Ideal) (rows m c (t.val / 8) (by have h := lt_of_lt_of_eq t.isLt N_0; omega)) (iblk m c 0 t) y
      = activated (m ((c : Thread nD τ).loc main_arg0)) (m ((c : Thread nD τ).loc main_arg1)) (((cfg0.win 1).blk t).view.emb y) := by
  pointwise [k0_pay1, activated]
  blk_point [iblk, V, rows, idx t]

/-- The result array after the run. -/
theorem final (c : Dev nD) : (dats m 0 c).arrAt 1 cfg0.N = activated (m ((c : Thread nD τ).loc main_arg0)) (m ((c : Thread nD τ).loc main_arg1)) := by
  refine (dats m 0 c).arrAt_eq_of_covers 1 _ (by decide +kernel) fun t _ y => ?_
  blk_simp
  rw [after0_1, outs]
  exact point m c t y

end Cert.Kernel2Ideal.Up

end
-- ==== Proof.DownValue.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

/-! The FFN's down projection call: the array its tiles fill is the reference's residual stream. -/

set_option maxRecDepth 16384

noncomputable section

namespace Cert.Kernel3Ideal.Down

open Idealize.ShloMosaic Idealize.ShloMosaic.TcCoe Idealize.SL.Sem
open Idealize.ShloMosaic.Pipeline (Dat)
open Cert.Kernel3Ideal Cert.Kernel3Ideal.Gen

/-- The FFN's down projection added to the residual stream: the reference's own operations. -/
abbrev residual (U : FVec Ideal S32768x8192 .bf16) (W : FVec Ideal S8192x2048 .bf16) (X : FVec Ideal S32768x2048 .f32) :
    FVec Ideal S32768x2048 .f32 :=
  addf X (Host.dotGeneral Cert.Reference3Ideal.dot_S32768x8192_S8192x2048_S32768x2048_1_0_0_1_n_n none
    (extf .f32 U Cert.Reference3Ideal.Gen.bitsLt_bf16_f32) (extf .f32 W Cert.Reference3Ideal.Gen.bitsLt_bf16_f32))

variable (m : (ℓ : Loc nD τ sig) → Buf (Elt Ideal) ℓ)

theorem idx : ∀ t : Fin cfg0.N, win0_0.index t = ![t.val % 8, 0, 0] ∧ win0_1.index t = ![t.val / 8, t.val % 8] ∧ win0_2.index t = ![t.val / 8, t.val % 8] :=
  (by decide +kernel : ∀ t : Fin grid0.N, _)

/-- The slot the body reads at point `t` is the parity of its row of tiles. -/
theorem off : ∀ t : Fin cfg0.N, k0_off7 (grid0.coords t) = ![t.val / 8 % 2, 0, 0] :=
  (by decide +kernel : ∀ t : Fin grid0.N, _)

/-- The row tile `b` of the streamed operand, as the body loads it. -/
def rows (c : Dev nD) (b : ℕ) (hb : b < 32) : Vec Ideal S1x1024x8192 .bf16 :=
  fun x => m ((c : Thread nD τ).loc main_arg0) (ix2 (⟨1024 * b + (x 1).val, by have h : (x 1).val < 1024 := (x 1).isLt; omega⟩ : Fin 32768) (x 2 : Fin 8192))

theorem shapeCast_at (v : Vec Ideal S1x1024x8192 .bf16) (x : S1x1024x8192.Idx) :
    shapeCast S1024x8192 v shapeCasts_S1x1024x8192_S1024x8192 (ix2 (x 1 : Fin 1024) (x 2 : Fin 8192)) = v x := by
  pointwise

/-- A slot read through its own view is the same elements read through the whole buffer. -/
theorem slot_view (s : Fin 2) (inb : ∀ a, (![s.val, 0, 0] : Fin 3 → ℕ) a + S1x1024x8192.size a ≤ S2x1024x8192.size a)
    (g : (rslot0_0 s).view.ty.Contents (Elt Ideal)) :
    (rslot0_0 s).view.read (Elt Ideal) g = shapeCast S1024x8192 (View.readAt (Elt Ideal) (View.whole cc0_scratch0)
      (Rect.unit (s := S2x1024x8192) ![s.val, 0, 0] S1x1024x8192.size inb).toLoadRect g) shapeCasts_S1x1024x8192_S1024x8192 :=
  Memref.read_squeeze_slice scM0_0 (Rect.unit (s := S2x1024x8192) ![s.val, 0, 0] S1x1024x8192.size inb) (fun _ => rfl)
    squeezes_S1x1024x8192_S1024x8192 shapeCasts_S1x1024x8192_S1024x8192 g

/-- A slot filled whole with `w`, loaded whole, is `w`. -/
theorem slot_read (s : Fin 2) (off : Fin 3 → ℕ) (hoff : off = ![s.val, 0, 0])
    (inb : ∀ a, off a + S1x1024x8192.size a ≤ S2x1024x8192.size a) (f : (rslot0_0 s).view.ty.Contents (Elt Ideal))
    (w : S1024x8192.Idx → Elt Ideal .bf16) (x : S1x1024x8192.Idx) :
    View.readAt (Elt Ideal) (View.whole cc0_scratch0) (Rect.unit (s := S2x1024x8192) off S1x1024x8192.size inb).toLoadRect
      ((rslot0_0 s).view.writes (Elt Ideal) f [⟨Rect.whole S1024x8192, w⟩]) x = w (ix2 (x 1 : Fin 1024) (x 2 : Fin 8192)) := by
  subst hoff
  have h := View.read_writes_whole (rslot0_0 s).view f w
  generalize (rslot0_0 s).view.writes (Elt Ideal) f [⟨Rect.whole S1024x8192, w⟩] = g at h ⊢
  rw [slot_view s inb g] at h
  rw [← h, shapeCast_at]

/-- A row tile of the streamed operand, read through the window its transfer names. -/
theorem src_read (c : Dev nD) (b : Fin 32) (x : S1024x8192.Idx) :
    (srcB0_0 b).view.read (Elt Ideal) (V m c main_arg0) x = m ((c : Thread nD τ).loc main_arg0)
      (Rect.emb (Rect.unit (s := S32768x8192) ![1024 * b.val, 0] S1024x8192.size (inb_src0_0 b)) x) := rfl

/-- The body's load at a point whose slot holds the row tile `b`. -/
theorem slot_rows (c : Dev nD) (s : Fin 2) (b : Fin 32) (n : ℕ) (hn : n < 32) (hs : s.val = n % 2) (hb : b.val = n) (off : Fin 3 → ℕ)
    (hoff : off = ![n % 2, 0, 0])
    (inb : ∀ a, off a + S1x1024x8192.size a ≤ S2x1024x8192.size a) (f : (rslot0_0 s).view.ty.Contents (Elt Ideal)) :
    View.readAt (Elt Ideal) (View.whole cc0_scratch0) (Rect.unit (s := S2x1024x8192) off S1x1024x8192.size inb).toLoadRect
      ((rslot0_0 s).view.writes (Elt Ideal) f
        [⟨Rect.whole S1024x8192, ReadAs.same.apply ((srcB0_0 b).view.read (Elt Ideal) (V m c main_arg0))⟩])
      = rows m c n hn := by
  subst hb
  funext x
  rw [slot_read s off (by rw [hoff, hs]) inb f]
  show (srcB0_0 b).view.read (Elt Ideal) (V m c main_arg0) _ = _
  rw [src_read]
  refine congrArg _ (funext fun a => ?_)
  fin_cases a
  · exact Fin.ext (show 1024 * b.val + 1 * (x 1).val = 1024 * b.val + (x 1).val by omega)
  · exact Fin.ext (show 0 + 1 * (x 2).val = (x 2).val by omega)

/-- What the output's tile holds after point `t`: the payload over the row tile and the weight tile. -/
theorem outs (c : Dev nD) (t : Fin cfg0.N) :
    outsAt0 m c t.val t.isLt = k0_pay1 (F := Ideal) (rows m c (t.val / 8) (by have h := lt_of_lt_of_eq t.isLt N_0; omega)) (iblk m c 0 t) (iblk m c 1 t) := by
  have ht := lt_of_lt_of_eq t.isLt N_0
  funext y
  by_cases h0 : t.val % 8 = 0
  · by_cases h1 : t.val < 8
    on_goal 1 => rw [outsAt0_A m c t h0 h1 (by omega)]
    on_goal 2 =>
      by_cases h2 : t.val < 248
      on_goal 1 => rw [outsAt0_C m c t h0 h1 h2]
      on_goal 2 => rw [outsAt0_D m c t h0 h1 h2]
    all_goals
      frame_out
      exact congrFun (congrArg (fun z => k0_pay1 z (iblk m c 0 t) (iblk m c 1 t)) (slot_rows m c _ _ _ _
        (by rw [Fin.val_ofNat, ringStep0_0]; omega) (by rw [Ring.bk_val (by rw [ringStep0_0]; omega), ringStep0_0]; omega) _ (off t) _ _)) y
  · rw [outsAt0_B m c t h0]
    frame_out
    exact congrFun (congrArg (fun z => k0_pay1 z (iblk m c 0 t) (iblk m c 1 t)) (slot_rows m c _ _ _ _
      (by rw [Fin.val_ofNat, ringStep0_0]; omega) (by rw [Ring.bk_val (by rw [ringStep0_0]; omega), ringStep0_0]; omega) _ (off t) _ _)) y

/-- What point `t` stores at an index of its tile is the result at the index it sits at. -/
theorem point (c : Dev nD) (t : Fin cfg0.N) (y : S1024x256.Idx) :
    k0_pay1 (F := Ideal) (rows m c (t.val / 8) (by have h := lt_of_lt_of_eq t.isLt N_0; omega)) (iblk m c 0 t) (iblk m c 1 t) y
      = residual (m ((c : Thread nD τ).loc main_arg0)) (m ((c : Thread nD τ).loc main_arg1)) (m ((c : Thread nD τ).loc main_arg2)) (((cfg0.win 2).blk t).view.emb y) := by
  pointwise [k0_pay1, residual]
  blk_point [iblk, V, rows, idx t]

/-- The result array after the run. -/
theorem final (c : Dev nD) : (dats m 0 c).arrAt 2 cfg0.N = residual (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2, outs]
  exact point m c t y

end Cert.Kernel3Ideal.Down

end
-- ==== Proof.OutValue.lean ====
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

/-! The output projection call: its two result arrays are the reference's residual stream and its RMSNorm. -/

set_option maxRecDepth 16384

noncomputable section

namespace Cert.Kernel4Ideal.Out

open Idealize.ShloMosaic Idealize.ShloMosaic.TcCoe Idealize.SL.Sem
open Idealize.ShloMosaic.Pipeline (Dat)
open Cert.Kernel4Ideal Cert.Kernel4Ideal.Gen

/-- The residual stream after the output projection. -/
abbrev stream (M : FVec Ideal S32768x2048 .bf16) (W : FVec Ideal S2048x2048 .bf16) (X : FVec Ideal S32768x2048 .f32) :
    FVec Ideal S32768x2048 .f32 :=
  addf X (Host.dotGeneral Cert.Reference4Ideal.dot_S32768x2048_S2048x2048_S32768x2048_1_0_0_1_n_n none
    (extf .f32 M Cert.Reference4Ideal.Gen.bitsLt_bf16_f32) (extf .f32 W Cert.Reference4Ideal.Gen.bitsLt_bf16_f32))

/-- RMSNorm of every row of `Y`, scaled by `w` and rounded to bf16: the reference's own operations. -/
abbrev normed (Y : FVec Ideal S32768x2048 .f32) (w : FVec Ideal S2048 .f32) : FVec Ideal S32768x2048 .bf16 :=
  truncf .bf16 (mulf (mulf Y (broadcastInDim Cert.Reference4Ideal.S32768x2048 ![0, 1] Cert.Reference4Ideal.Gen.bcast_S32768x1_S32768x2048_0_1
      (Host.rsqrt (addf (Host.divf
        (broadcastInDim Cert.Reference4Ideal.S32768x1 ![0] Cert.Reference4Ideal.Gen.bcast_S32768_S32768x1_0
          (Host.reduceAdd (mulf Y Y) (constant Cert.Reference4Ideal.S_ .f32 0x00000000#32)
            Cert.Reference4Ideal.Gen.reducesTo_S32768x2048_S32768_d1 Cert.Reference4Ideal.Gen.h_S_))
        (broadcastInDim Cert.Reference4Ideal.S32768x1 ![] Cert.Reference4Ideal.Gen.bcast_S_S32768x1 (constant Cert.Reference4Ideal.S_ .f32 0x45000000#32)))
        (broadcastInDim Cert.Reference4Ideal.S32768x1 ![] Cert.Reference4Ideal.Gen.bcast_S_S32768x1 (constant Cert.Reference4Ideal.S_ .f32 0x358637BD#32))))))
    (broadcastInDim Cert.Reference4Ideal.S32768x2048 ![0, 1] Cert.Reference4Ideal.Gen.bcast_S1x2048_S32768x2048_0_1
      (broadcastInDim Cert.Reference4Ideal.S1x2048 ![1] Cert.Reference4Ideal.Gen.bcast_S2048_S1x2048_1 w))) Cert.Reference4Ideal.Gen.bitsLt_bf16_f32

variable (m : (ℓ : Loc nD τ sig) → Buf (Elt Ideal) ℓ)

/-- The residual stream of the launched arguments. -/
abbrev streamOf (c : Dev nD) : FVec Ideal S32768x2048 .f32 :=
  stream (m ((c : Thread nD τ).loc main_arg0)) (m ((c : Thread nD τ).loc main_arg1)) (m ((c : Thread nD τ).loc main_arg2))

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- What point `t` stores in the stream's block is the stream at the index it sits at. -/
theorem pointStream (c : Dev nD) (t : Fin cfg0.N) (y : S512x2048.Idx) :
    k0_pay1 (F := Ideal) (iblk m c 2 t) (iblk m c 0 t) (iblk m c 1 t) y = streamOf m c (((cfg0.win 4).blk t).view.emb y) := by
  pointwise [k0_pay1, streamOf, stream]
  blk_point [iblk, V, idx t]

/-- The stream's array after the run. -/
theorem finalStream (c : Dev nD) : (dats m 0 c).arrAt 4 cfg0.N = streamOf m c := by
  refine (dats m 0 c).arrAt_eq_of_covers 4 _ (by decide +kernel) fun t _ y => ?_
  blk_simp
  rw [after0_4]
  frame_out
  exact pointStream m c t y

/-- What point `t` stores in the norm's block is the normalised stream at the index it sits at. -/
theorem pointNorm (c : Dev nD) (t : Fin cfg0.N) (y : S512x2048.Idx) :
    k0_pay2 (F := Ideal) (iblk m c 2 t) (iblk m c 0 t) (iblk m c 1 t) (iblk m c 3 t) y
      = normed (streamOf m c) (m ((c : Thread nD τ).loc main_arg3)) (((cfg0.win 5).blk t).view.emb y) := by
  pointwise [k0_pay2, k0_pay1, normed, streamOf, stream]
  blk_point [iblk, V, idx t]

/-- The norm's array after the run. -/
theorem finalNorm (c : Dev nD) : (dats m 0 c).arrAt 5 cfg0.N = normed (streamOf m c) (m ((c : Thread nD τ).loc main_arg3)) := by
  refine (dats m 0 c).arrAt_eq_of_covers 5 _ (by decide +kernel) fun t _ y => ?_
  blk_simp
  rw [after0_5]
  frame_out
  exact pointNorm m c t y

end Cert.Kernel4Ideal.Out

end
-- ==== Proof.MergeValue.lean ====
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

/-! The branch merge call: the array its tiles fill is the reference's gated sum of the two projected branches. -/

set_option maxRecDepth 16384

noncomputable section

namespace Cert.Kernel5Ideal.Merge

open Idealize.ShloMosaic Idealize.ShloMosaic.TcCoe Idealize.SL.Sem
open Idealize.ShloMosaic.Pipeline (Dat)
open Cert.Kernel5Ideal Cert.Kernel5Ideal.Gen

/-- The sigmoid of the last two thirds of `R`. -/
abbrev gates (R : FVec Ideal S32768x6144 .bf16) : FVec Ideal Cert.Reference5Ideal.S32768x4096 .f32 :=
  Host.divf (broadcastInDim Cert.Reference5Ideal.S32768x4096 ![] Cert.Reference5Ideal.Gen.bcast_S_S32768x4096 (constant Cert.Reference5Ideal.S_ .f32 0x3F800000#32))
    (addf (broadcastInDim Cert.Reference5Ideal.S32768x4096 ![] Cert.Reference5Ideal.Gen.bcast_S_S32768x4096 (constant Cert.Reference5Ideal.S_ .f32 0x3F800000#32))
      (Host.exp (Host.negf (extf .f32 (extractStridedSlice Cert.Reference5Ideal.S32768x4096 ![0, 2048] R
        Cert.Reference5Ideal.Gen.slices_S32768x6144_S32768x4096_0_2048) Cert.Reference5Ideal.Gen.bitsLt_bf16_f32))))

/-- A branch's output projection. -/
abbrev proj (A : FVec Ideal S32768x1024 .bf16) (W : FVec Ideal S1024x2048 .bf16) : FVec Ideal Cert.Reference5Ideal.S32768x2048 .f32 :=
  Host.dotGeneral Cert.Reference5Ideal.dot_S32768x1024_S1024x2048_S32768x2048_1_0_0_1_n_n none
    (extf .f32 A Cert.Reference5Ideal.Gen.bitsLt_bf16_f32) (extf .f32 W Cert.Reference5Ideal.Gen.bitsLt_bf16_f32)

/-- The gated sum of the two branches: the reference's own operations. -/
abbrev merged (A B : FVec Ideal S32768x1024 .bf16) (WA WB : FVec Ideal S1024x2048 .bf16) (R : FVec Ideal S32768x6144 .bf16) :
    FVec Ideal S32768x2048 .bf16 :=
  truncf .bf16 (addf
    (mulf (extractStridedSlice Cert.Reference5Ideal.S32768x2048 ![0, 0] (gates R) Cert.Reference5Ideal.Gen.slices_S32768x4096_S32768x2048_0_0) (proj A WA))
    (mulf (extractStridedSlice Cert.Reference5Ideal.S32768x2048 ![0, 2048] (gates R) Cert.Reference5Ideal.Gen.slices_S32768x4096_S32768x2048_0_2048) (proj B WB)))
    Cert.Reference5Ideal.Gen.bitsLt_bf16_f32

variable (m : (ℓ : Loc nD τ sig) → Buf (Elt Ideal) ℓ)

theorem idx : ∀ t : Fin cfg0.N, win0_0.index t = ![t.val / 4, 0] ∧ win0_1.index t = ![t.val / 4, 0] ∧ win0_2.index t = ![0, t.val % 4]
    ∧ win0_3.index t = ![0, t.val % 4] ∧ win0_4.index t = ![t.val / 4, 4 + t.val % 4] ∧ win0_5.index t = ![t.val / 4, 8 + t.val % 4]
    ∧ win0_6.index t = ![t.val / 4, t.val % 4] :=
  (by decide +kernel : ∀ t : Fin grid0.N, _)

/-- What point `t` stores at an index of its tile is the merged array at the index it sits at. -/
theorem point (c : Dev nD) (t : Fin cfg0.N) (y : S1024x512.Idx) :
    k0_pay1 (F := Ideal) (iblk m c 0 t) (iblk m c 2 t) (iblk m c 1 t) (iblk m c 3 t) (iblk m c 4 t) (iblk m c 5 t) y
      = merged (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  pointwise [k0_pay1, merged, gates, proj, Ideal.logistic]
  blk_point [iblk, V, idx t]

/-- The result array after the run. -/
theorem final (c : Dev nD) : (dats m 0 c).arrAt 6 cfg0.N
    = merged (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  frame_out
  exact point m c t y

end Cert.Kernel5Ideal.Merge

end
-- ==== Proof.NormValue.lean ====
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

/-! The final RMSNorm call: the array its row blocks fill is the reference's normalised array. -/

set_option maxRecDepth 16384

noncomputable section

namespace Cert.Kernel6Ideal.Norm

open Idealize.ShloMosaic Idealize.ShloMosaic.TcCoe Idealize.SL.Sem
open Idealize.ShloMosaic.Pipeline (Dat)
open Cert.Kernel6Ideal Cert.Kernel6Ideal.Gen

/-- RMSNorm of every row of `X`, scaled by `w`: the reference's own operations. -/
abbrev normed (X : FVec Ideal S32768x2048 .f32) (w : FVec Ideal S2048 .f32) : FVec Ideal S32768x2048 .f32 :=
  mulf (mulf X (broadcastInDim Cert.Reference6Ideal.S32768x2048 ![0, 1] Cert.Reference6Ideal.Gen.bcast_S32768x1_S32768x2048_0_1
      (Host.rsqrt (addf (Host.divf
        (broadcastInDim Cert.Reference6Ideal.S32768x1 ![0] Cert.Reference6Ideal.Gen.bcast_S32768_S32768x1_0
          (Host.reduceAdd (mulf X X) (constant Cert.Reference6Ideal.S_ .f32 0x00000000#32)
            Cert.Reference6Ideal.Gen.reducesTo_S32768x2048_S32768_d1 Cert.Reference6Ideal.Gen.h_S_))
        (broadcastInDim Cert.Reference6Ideal.S32768x1 ![] Cert.Reference6Ideal.Gen.bcast_S_S32768x1 (constant Cert.Reference6Ideal.S_ .f32 0x45000000#32)))
        (broadcastInDim Cert.Reference6Ideal.S32768x1 ![] Cert.Reference6Ideal.Gen.bcast_S_S32768x1 (constant Cert.Reference6Ideal.S_ .f32 0x358637BD#32))))))
    (broadcastInDim Cert.Reference6Ideal.S32768x2048 ![0, 1] Cert.Reference6Ideal.Gen.bcast_S1x2048_S32768x2048_0_1
      (broadcastInDim Cert.Reference6Ideal.S1x2048 ![1] Cert.Reference6Ideal.Gen.bcast_S2048_S1x2048_1 w))

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- What point `t` stores at an index of its block is the normalised array at the index it sits at. -/
theorem point (c : Dev nD) (t : Fin cfg0.N) (y : S512x2048.Idx) :
    k0_pay1 (F := Ideal) (iblk m c 0 t) (iblk m c 1 t) y
      = normed (m ((c : Thread nD τ).loc main_arg0)) (m ((c : Thread nD τ).loc main_arg1)) (((cfg0.win 2).blk t).view.emb y) := by
  pointwise [k0_pay1, normed]
  blk_point [iblk, V, idx t]

/-- The result array after the run. -/
theorem final (c : Dev nD) : (dats m 0 c).arrAt 2 cfg0.N
    = normed (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel6Ideal.Norm

end
-- ==== Proof.DenseClaims.lean ====
module

public import proofs.«01_k».proof.Defs
public import proofs.«01_k».proof.Proof.Gen.Kernel2.Frame
public import proofs.«01_k».proof.Proof.UpValue
public import proofs.«01_k».proof.Proof.Gen.Kernel3.Frame
public import proofs.«01_k».proof.Proof.DownValue
public import proofs.«01_k».proof.Proof.Gen.Kernel4.Frame
public import proofs.«01_k».proof.Proof.OutValue
public import proofs.«01_k».proof.Proof.Gen.Kernel5.Frame
public import proofs.«01_k».proof.Proof.MergeValue
public import proofs.«01_k».proof.Proof.Gen.Kernel6.Frame
public import proofs.«01_k».proof.Proof.NormValue
public import Idealize.ShloMosaic.Lib.Claim

@[expose] public section

/-! The claims about the dense calls: both FFN products, the output projection, the branch merge and the final norm. -/

set_option maxRecDepth 16384

noncomputable section

namespace Cert.Proof

open Idealize.ShloMosaic Idealize.ShloMosaic.TcCoe Idealize.SL.Sem

theorem algebraic2 : Cert.algebraic_Kernel2Ideal_Reference2Ideal := by
  pair_intro
  · run_from Cert.Kernel2Ideal.Gen.run_main m g
  · run_from Cert.Reference2Ideal.Value.run m' g'
    exact (Cert.Kernel2Ideal.Up.final m c).symm

theorem algebraic3 : Cert.algebraic_Kernel3Ideal_Reference3Ideal := by
  pair_intro
  · run_from Cert.Kernel3Ideal.Gen.run_main m g
  · run_from Cert.Reference3Ideal.Value.run m' g'
    exact (Cert.Kernel3Ideal.Down.final m c).symm

theorem algebraic4 : Cert.algebraic_Kernel4Ideal_Reference4Ideal := by
  pair_intro
  · run_from Cert.Kernel4Ideal.Gen.run_main m g
  · run_from Cert.Reference4Ideal.Value.run m' g'
    · exact (Cert.Kernel4Ideal.Out.finalStream m c).symm
    · exact (Cert.Kernel4Ideal.Out.finalNorm m c).symm

theorem algebraic5 : Cert.algebraic_Kernel5Ideal_Reference5Ideal := by
  pair_intro
  · run_from Cert.Kernel5Ideal.Gen.run_main m g
  · run_from Cert.Reference5Ideal.Value.run m' g'
    exact (Cert.Kernel5Ideal.Merge.final m c).symm

theorem algebraic6 : Cert.algebraic_Kernel6Ideal_Reference6Ideal := by
  pair_intro
  · run_from Cert.Kernel6Ideal.Gen.run_main m g
  · run_from Cert.Reference6Ideal.Value.run m' g'
    exact (Cert.Kernel6Ideal.Norm.final m c).symm

end Cert.Proof

end
-- ==== Proof.GdnFrame.lean ====
module

public import proofs.«01_k».proof.Proof.Gen.Kernel.Frame
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ
variable (m : (ℓ : Loc nD τ sig) → Buf (Elt F) ℓ) (ρ : Dev nD → PrngReg)

/-- The kernel clears its carried state at this grid point. -/
abbrev clears (i : grid0.Coords) : Prop :=
  (Scalar.cmpi .ne (Scalar.extui (Scalar.cmpi .eq (BitVec.ofNat 32 (i 1).val) 0#32)) 0#32) = 1#1

/-- The state is cleared at the first of every four points. -/
theorem clears_iff (t : Fin cfg0.N) : clears (grid0.coords t) ↔ t.val % 4 = 0 := by
  have ht : t.val < 64 := Nat.lt_of_lt_of_eq t.isLt N_0
  have e1 : (grid0.coords t 1).val = t.val / 1 % 4 := Pipeline.Grid.coords_val t 1 (by decide) rfl
  simp only [clears, e1]
  word_cmp

/-- The block buffer of window 0 the call holds at point `t`. -/
def buf0 (t : Fin cfg0.N) : Memref sig .tc .vmem S1x8x512x128 .bf16 := win0_0.stage (cfg0.slots t 0)
theorem hbuf0 (t : Fin cfg0.N) : (buf0 t).IsWhole := hstage0_0 ((cfg0.slots t 0).cast nbuf0_0)
/-- The block buffer of window 1 the call holds at point `t`. -/
def buf1 (t : Fin cfg0.N) : Memref sig .tc .vmem S1x8x512x128 .bf16 := win0_1.stage (cfg0.slots t 1)
theorem hbuf1 (t : Fin cfg0.N) : (buf1 t).IsWhole := hstage0_1 ((cfg0.slots t 1).cast nbuf0_1)
/-- The block buffer of window 2 the call holds at point `t`. -/
def buf2 (t : Fin cfg0.N) : Memref sig .tc .vmem S1x8x512x128 .f32 := win0_2.stage (cfg0.slots t 2)
theorem hbuf2 (t : Fin cfg0.N) : (buf2 t).IsWhole := hstage0_2 ((cfg0.slots t 2).cast nbuf0_2)
/-- The block buffer of window 3 the call holds at point `t`. -/
def buf3 (t : Fin cfg0.N) : Memref sig .tc .vmem S1x8x512x128 .bf16 := win0_3.stage (cfg0.slots t 3)
theorem hbuf3 (t : Fin cfg0.N) : (buf3 t).IsWhole := hstage0_3 ((cfg0.slots t 3).cast nbuf0_3)
/-- The block buffer of window 4 the call holds at point `t`. -/
def buf4 (t : Fin cfg0.N) : Memref sig .tc .vmem S1x8x4x128x128 .bf16 := win0_4.stage (cfg0.slots t 4)
theorem hbuf4 (t : Fin cfg0.N) : (buf4 t).IsWhole := hstage0_4 ((cfg0.slots t 4).cast nbuf0_4)
/-- The block buffer of window 5 the call holds at point `t`. -/
def buf5 (t : Fin cfg0.N) : Memref sig .tc .vmem S1x8x8x8x128 .f32 := win0_5.stage (cfg0.slots t 5)
theorem hbuf5 (t : Fin cfg0.N) : (buf5 t).IsWhole := hstage0_5 ((cfg0.slots t 5).cast nbuf0_5)
/-- The block buffer of window 6 the call holds at point `t`. -/
def buf6 (t : Fin cfg0.N) : Memref sig .tc .vmem S1x512x1024 .f32 := win0_6.stage (cfg0.slots t 6)
theorem hbuf6 (t : Fin cfg0.N) : (buf6 t).IsWhole := hstage0_6 ((cfg0.slots t 6).cast nbuf0_6)
/-- The block buffer of window 7 the call holds at point `t`. -/
def buf7 (t : Fin cfg0.N) : Memref sig .tc .vmem S1x128 .f32 := win0_7.stage (cfg0.slots t 7)
theorem hbuf7 (t : Fin cfg0.N) : (buf7 t).IsWhole := hstage0_7 ((cfg0.slots t 7).cast nbuf0_7)
/-- The block buffer of window 8 the call holds at point `t`. -/
def buf8 (t : Fin cfg0.N) : Memref sig .tc .vmem S1x512x1024 .bf16 := win0_8.stage (cfg0.slots t 8)
theorem hbuf8 (t : Fin cfg0.N) : (buf8 t).IsWhole := hstage0_8 ((cfg0.slots t 8).cast nbuf0_8)
/-- The two scratch arrays: the carried state, and the block of raw outputs. -/
abbrev scState : Memref sig .tc .vmem S8x128x128 .f32 := Memref.whole cc0_scratch0
abbrev scOut : Memref sig .tc .vmem S512x1024 .f32 := Memref.whole cc0_scratch1

/-- What the launch hands the call beside the windows: both scratch arrays and the generator register. -/
theorem scratch_eq (c : Dev nD) : (Pipeline.ΦA spec0 c : sProp 𝕄)
    = iprop(iprop((∃ d, owns (c : Thread nD τ) scState fullShare d) ∗ (∃ d, owns (c : Thread nD τ) scOut fullShare d)) ∗ (∃ r, prngReg c r)) := by
  unfold Pipeline.ΦA; rw [scopedRest0_eq]; simp only [scState, scOut, owns_whole]; try rfl

set_option maxHeartbeats 2000000 in
/-- The body runs from whole buffers, keeps its inputs, and leaves something in the output and the scratch arrays. -/
theorem body_runs (c : Dev nD) (i : grid0.Coords) (arg2 : Memref sig .tc .vmem S1x8x512x128 .bf16) (harg2 : arg2.IsWhole) (arg3 : Memref sig .tc .vmem S1x8x512x128 .bf16) (harg3 : arg3.IsWhole) (arg4 : Memref sig .tc .vmem S1x8x512x128 .f32) (harg4 : arg4.IsWhole) (arg5 : Memref sig .tc .vmem S1x8x512x128 .bf16) (harg5 : arg5.IsWhole) (arg6 : Memref sig .tc .vmem S1x8x4x128x128 .bf16) (harg6 : arg6.IsWhole) (arg7 : Memref sig .tc .vmem S1x8x8x8x128 .f32) (harg7 : arg7.IsWhole) (arg8 : Memref sig .tc .vmem S1x512x1024 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S8x128x128 .f32) (harg11 : arg11.IsWhole) (arg12 : Memref sig .tc .vmem S512x1024 .f32) (harg12 : arg12.IsWhole)
    (x0 : Vec F S1x8x512x128 .bf16) (x1 : Vec F S1x8x512x128 .bf16) (x2 : Vec F S1x8x512x128 .f32) (x3 : Vec F S1x8x512x128 .bf16) (x4 : Vec F S1x8x4x128x128 .bf16) (x5 : Vec F S1x8x8x8x128 .f32) (x6 : Vec F S1x512x1024 .f32) (x7 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_gdn_scan i arg2 harg2 arg3 harg3 arg4 harg4 arg5 harg5 arg6 harg6 arg7 harg7 arg8 harg8 arg9 harg9 arg10 harg10 arg11 harg11 arg12 harg12) K := by
  by_cases hc0 : clears i
  · simp only [cc0_gdn_scan_eq_skeleton]; unfold cc0_gdn_scan_skel
    simp only [k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl
  · simp only [cc0_gdn_scan_eq_skeleton]; unfold cc0_gdn_scan_skel
    simp only [k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

/-- The window whose contents nothing names: the output. -/
def unnamed : Fin 9 → Bool := fun w => w.val == 8

/-- The proof data of the call on core `c`: arrays as the region finds them, every input's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ t := Pipeline.ΦA spec0 c
  q _ := fullShare
  owed _ := 0

theorem dats_A (c : Dev nD) (w : Fin cfg0.W) : (dats m 0 c).A w = V m c (Pipeline.arrRef spec0 w) := by
  dsimp only [dats]
theorem left0 (c : Dev nD) (t : Fin cfg0.N) : (dats m 0 c).after 0 t = iblk m c 0 t := by dsimp only [dats]
theorem found0 (c : Dev nD) (t : Fin cfg0.N) (d) : (dats m 0 c).before 0 t d = iblk m c 0 t :=
  before0_0_of m (dats m 0 c) (dats_A m c 0) (left0 m c) t d
theorem left1 (c : Dev nD) (t : Fin cfg0.N) : (dats m 0 c).after 1 t = iblk m c 1 t := by dsimp only [dats]
theorem found1 (c : Dev nD) (t : Fin cfg0.N) (d) : (dats m 0 c).before 1 t d = iblk m c 1 t :=
  before0_1_of m (dats m 0 c) (dats_A m c 1) (left1 m c) t d
theorem left2 (c : Dev nD) (t : Fin cfg0.N) : (dats m 0 c).after 2 t = iblk m c 2 t := by dsimp only [dats]
theorem found2 (c : Dev nD) (t : Fin cfg0.N) (d) : (dats m 0 c).before 2 t d = iblk m c 2 t :=
  before0_2_of m (dats m 0 c) (dats_A m c 2) (left2 m c) t d
theorem left3 (c : Dev nD) (t : Fin cfg0.N) : (dats m 0 c).after 3 t = iblk m c 3 t := by dsimp only [dats]
theorem found3 (c : Dev nD) (t : Fin cfg0.N) (d) : (dats m 0 c).before 3 t d = iblk m c 3 t :=
  before0_3_of m (dats m 0 c) (dats_A m c 3) (left3 m c) t d
theorem left4 (c : Dev nD) (t : Fin cfg0.N) : (dats m 0 c).after 4 t = iblk m c 4 t := by dsimp only [dats]
theorem found4 (c : Dev nD) (t : Fin cfg0.N) (d) : (dats m 0 c).before 4 t d = iblk m c 4 t :=
  before0_4_of m (dats m 0 c) (dats_A m c 4) (left4 m c) t d
theorem left5 (c : Dev nD) (t : Fin cfg0.N) : (dats m 0 c).after 5 t = iblk m c 5 t := by dsimp only [dats]
theorem found5 (c : Dev nD) (t : Fin cfg0.N) (d) : (dats m 0 c).before 5 t d = iblk m c 5 t :=
  before0_5_of m (dats m 0 c) (dats_A m c 5) (left5 m c) t d
theorem left6 (c : Dev nD) (t : Fin cfg0.N) : (dats m 0 c).after 6 t = iblk m c 6 t := by dsimp only [dats]
theorem found6 (c : Dev nD) (t : Fin cfg0.N) (d) : (dats m 0 c).before 6 t d = iblk m c 6 t :=
  before0_6_of m (dats m 0 c) (dats_A m c 6) (left6 m c) t d
theorem left7 (c : Dev nD) (t : Fin cfg0.N) : (dats m 0 c).after 7 t = iblk m c 7 t := by dsimp only [dats]
theorem found7 (c : Dev nD) (t : Fin cfg0.N) (d) : (dats m 0 c).before 7 t d = iblk m c 7 t :=
  before0_7_of m (dats m 0 c) (dats_A m c 7) (left7 m c) t d

/-- What the body is called with at point `t`. -/
def given (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare d))

/-- What the body gives back at point `t`. -/
def returned (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ (∃ d, owns (c : Thread nD τ) (buf8 t) fullShare d))

set_option maxHeartbeats 6400000 in
/-- The body at any point, from what it is called with to what it gives back. -/
theorem sound (c : Dev nD) (t : Fin cfg0.N) :
    given m c t ⊢ wp frame (wpE (defs₀ (F := F)) Variants.none c none) Set.univ (bodyAt0 t) (fun _ => returned m c t) := by
  unfold given returned bodyAt0
  simp only [found0, found1, found2, found3, found4, found5, found6, found7]
  rw [show (dats m 0 c).owesAt () t.succ = (dats m 0 c).owesAt () t.castSucc from rfl,
    left0, left1, left2, left3, left4, left5, left6, left7]
  rw [show (dats m 0 c).Φ t.castSucc = Pipeline.ΦA spec0 c from rfl, show (dats m 0 c).Φ t.succ = Pipeline.ΦA spec0 c from rfl, scratch_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_runs c (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t` is the printed body on that point's buffers. -/
theorem row (t : Fin cfg0.N) : defs₀ (F := F) .tc cfg0.body (cfg0.bodyArgs t (cfg0.slots t)) = bodyAt0 t := by
  unfold defs₀; rw [Defs.onTc_tc]

/-- The library's body obligation. -/
theorem obligation (c : Dev nD) : BodyObligation (dats (F := F) m 0 c) (defs₀ (F := F)) Variants.none () Set.univ unnamed := fun t => by
  rw [bigSep_W0, bigSep_W0, row]
  exact triple_restated (sound m c t) rfl .rfl fun _ => .rfl

set_option backward.isDefEq.respectTransparency.types false in
/-- The launch: it terminates with every input array as found and every counter at zero. -/
theorem launch : θ_run defs (onTc (τ := τ) (main (F := F))) (s₀ m ρ)
    (fun r => (Pipeline.RDat.FramePost (cfgs 0) (fun c => (dats m 0 c).toRForget unnamed) (V m)) r ∧ r.2.sem = fun _ => 0) :=
  Pipeline.θ_run_frame_track_forget (Q' := _) cfgs (dats m) (0 : Fin 1) launch0 defs₀ Variants.none unnamed m ρ main
    (hbody := fun c => (obligation m c).loose) (hshare := fun c => (dats m 0 c).share_full fun _ => rfl)
    (howed := fun _ _ => rfl) (V := V m) (hmain := hmain m Variants.none) (hA := dats_A m)
    (hin := fun _ => .rfl) (hout := fun _ => .rfl)

/-- The frame: every argument array ends as it began, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨
      (Pipeline.RDat.FramePost.arr_in h.1 c 0 rfl).trans ((dats_A m c 0).trans (V_main_arg0 m c)),
      (Pipeline.RDat.FramePost.arr_in h.1 c 1 rfl).trans ((dats_A m c 1).trans (V_main_arg1 m c)),
      (Pipeline.RDat.FramePost.arr_in h.1 c 2 rfl).trans ((dats_A m c 2).trans (V_main_arg2 m c)),
      (Pipeline.RDat.FramePost.arr_in h.1 c 3 rfl).trans ((dats_A m c 3).trans (V_main_arg3 m c)),
      (Pipeline.RDat.FramePost.arr_in h.1 c 4 rfl).trans ((dats_A m c 4).trans (V_main_arg4 m c)),
      (Pipeline.RDat.FramePost.arr_in h.1 c 5 rfl).trans ((dats_A m c 5).trans (V_main_arg5 m c)),
      (Pipeline.RDat.FramePost.arr_in h.1 c 6 rfl).trans ((dats_A m c 6).trans (V_main_arg6 m c)),
      ((h.1 c).2 main_arg7 (Pipeline.mem_restRefs_of main_arg7 (by decide) (by decide))).trans (V_main_arg7 m c)⟩, h.2⟩) (launch m ρ)

end Cert.Kernel.Hand

end
-- ==== Proof.GdnHead.lean ====
module

public import proofs.«01_k».proof.Proof.Gen.KernelIdeal.Skeleton
public import Idealize.ShloMosaic.Lib.Pointwise

@[expose] public section

/-! One head, one chunk of the gated delta rule, as the kernel composes it and entry by entry. -/

set_option maxRecDepth 16384

noncomputable section

namespace Cert.KernelIdeal.Hand

open Idealize.ShloMosaic Idealize.ShloMosaic.TcCoe
open Cert.KernelIdeal Cert.KernelIdeal.Gen

section Defs
variable {F : FTy → Type} [FloatOps F]

/-- The state times the chunk's keys above its times the chunk's queries. -/
def mix (S : Vec F S1x128x128 .f32) (w q : Vec F S1x1x64x128 .bf16) : FVec F S128x128 .f32 := k0_pay12 (k0_pay10 w q) (k0_pay11 S)

/-- The chunk's corrected values. -/
def fresh (S : Vec F S1x128x128 .f32) (w q : Vec F S1x1x64x128 .bf16) (u : Vec F S1x1x64x128 .f32) : FVec F S64x128 .bf16 :=
  k0_pay22 (mix S w q) (k0_pay21 u)

/-- The corrected values through the chunk's attention block and through its keys, for the first chunk of a pair. -/
def resA (S : Vec F S1x128x128 .f32) (w q : Vec F S1x1x64x128 .bf16) (u : Vec F S1x1x64x128 .f32) (x : Vec F S1x1x64x128 .bf16)
    (d : Vec F S1x1x1x128x128 .bf16) : FVec F S192x128 .f32 := k0_pay35 k0_pay119 (fresh S w q u) x d

/-- The same for the second chunk of a pair. -/
def resB (S : Vec F S1x128x128 .f32) (w q : Vec F S1x1x64x128 .bf16) (u : Vec F S1x1x64x128 .f32) (x : Vec F S1x1x64x128 .bf16)
    (d : Vec F S1x1x1x128x128 .bf16) : FVec F S192x128 .f32 := k0_pay94 k0_pay119 (fresh S w q u) x d

def stA (S : Vec F S1x128x128 .f32) (w q : Vec F S1x1x64x128 .bf16) (u : Vec F S1x1x64x128 .f32) (x : Vec F S1x1x64x128 .bf16)
    (d : Vec F S1x1x1x128x128 .bf16) (e : Vec F S1x1x1x1x128 .f32) : FVec F S1x128x128 .f32 := k0_pay46 (k0_pay2 S) (resA S w q u x d) e

def stB (S : Vec F S1x128x128 .f32) (w q : Vec F S1x1x64x128 .bf16) (u : Vec F S1x1x64x128 .f32) (x : Vec F S1x1x64x128 .bf16)
    (d : Vec F S1x1x1x128x128 .bf16) (e : Vec F S1x1x1x1x128 .f32) : FVec F S1x128x128 .f32 := k0_pay46 (k0_pay2 S) (resB S w q u x d) e

def outA (S : Vec F S1x128x128 .f32) (w q : Vec F S1x1x64x128 .bf16) (u : Vec F S1x1x64x128 .f32) (x : Vec F S1x1x64x128 .bf16)
    (d : Vec F S1x1x1x128x128 .bf16) : FVec F S64x128 .f32 := k0_pay45 (mix S w q) (resA S w q u x d)

def outB (S : Vec F S1x128x128 .f32) (w q : Vec F S1x1x64x128 .bf16) (u : Vec F S1x1x64x128 .f32) (x : Vec F S1x1x64x128 .bf16)
    (d : Vec F S1x1x1x128x128 .bf16) : FVec F S64x128 .f32 := k0_pay45 (mix S w q) (resB S w q u x d)

end Defs

variable (S : Vec Ideal S1x128x128 .f32) (w q : Vec Ideal S1x1x64x128 .bf16) (u : Vec Ideal S1x1x64x128 .f32) (x : Vec Ideal S1x1x64x128 .bf16)
  (d : Vec Ideal S1x1x1x128x128 .bf16) (e : Vec Ideal S1x1x1x1x128 .f32)

/-- A corrected value. -/
def vn (c : Fin 64) (j : Fin 128) : EReal :=
  (show EReal from u (ix4 0 0 c j)) - ∑ k : Fin 128, (show EReal from w (ix4 0 0 c k)) * (show EReal from S (ix3 0 k j))

theorem fresh_at (c : Fin 64) (j : Fin 128) : fresh S w q u (ix2 c j) = vn S w u c j := by
  pointwise [fresh, mix, vn, k0_pay22, k0_pay21, k0_pay12, k0_pay10, k0_pay11, k0_pay2]

theorem stA_at (i j : Fin 128) : stA S w q u x d e (ix3 0 i j) = (show EReal from S (ix3 0 i j)) * (show EReal from e (ix5 0 0 0 0 j))
    + ∑ c : Fin 64, (show EReal from d (ix5 0 0 0 i ⟨c.val, by omega⟩)) * vn S w u c j := by
  pointwise [stA, resA, k0_pay46, k0_pay2, k0_pay35, k0_pay119, fresh_at]
  simp only [mul_zero, Finset.sum_const_zero, add_zero, zero_add]

theorem stB_at (i j : Fin 128) : stB S w q u x d e (ix3 0 i j) = (show EReal from S (ix3 0 i j)) * (show EReal from e (ix5 0 0 0 0 j))
    + ∑ c : Fin 64, (show EReal from d (ix5 0 0 0 i ⟨64 + c.val, by omega⟩)) * vn S w u c j := by
  pointwise [stB, resB, k0_pay46, k0_pay2, k0_pay94, k0_pay119, fresh_at]
  simp only [mul_zero, Finset.sum_const_zero, add_zero, zero_add]

theorem outA_at (c : Fin 64) (j : Fin 128) : outA S w q u x d (ix2 c j) = (∑ k : Fin 128, (show EReal from q (ix4 0 0 c k)) * (show EReal from S (ix3 0 k j)))
    + ∑ c' : Fin 64, (show EReal from x (ix4 0 0 c ⟨c'.val, by omega⟩)) * vn S w u c' j := by
  pointwise [outA, resA, mix, k0_pay45, k0_pay12, k0_pay10, k0_pay11, k0_pay2, k0_pay35, k0_pay119, fresh_at]
  simp only [mul_zero, Finset.sum_const_zero, add_zero, zero_add]

theorem outB_at (c : Fin 64) (j : Fin 128) : outB S w q u x d (ix2 c j) = (∑ k : Fin 128, (show EReal from q (ix4 0 0 c k)) * (show EReal from S (ix3 0 k j)))
    + ∑ c' : Fin 64, (show EReal from x (ix4 0 0 c ⟨64 + c'.val, by omega⟩)) * vn S w u c' j := by
  pointwise [outB, resB, mix, k0_pay45, k0_pay12, k0_pay10, k0_pay11, k0_pay2, k0_pay94, k0_pay119, fresh_at]
  simp only [mul_zero, Finset.sum_const_zero, add_zero, zero_add]

end Cert.KernelIdeal.Hand

end
-- ==== Proof.GdnTrip.lean ====
module

public import proofs.«01_k».proof.Proof.Gen.KernelIdeal.Loops
public import proofs.«01_k».proof.Proof.GdnHead
public import Idealize.ShloMosaic.Lib.Pipeline.ReadBack
public import Idealize.ShloMosaic.Lib.VecWindow
public import Idealize.ShloMosaic.Lib.WritesUnit

@[expose] public section

/-! One trip of the scan's loop — a pair of chunks, every head —: the pieces it writes into the state and into the outputs. -/

set_option maxRecDepth 16384

noncomputable section

namespace Cert.KernelIdeal.Hand

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

/-! ## Where the loads and the stores of a trip sit -/

/-- Head `h`, the chunk `r` rows into the pair of trip `k`. -/
abbrev offV (h : ℕ) (k : Fin k0_t1_loop.trips) (r : BitVec 32) : Fin 4 → ℕ :=
  ![0, h, (Scalar.indexCast (Scalar.addi (Scalar.muli (Scf.iv 0#32 1#32 k) 128#32) r)).toNat, 0]
abbrev offK (h : ℕ) (k : Fin k0_t1_loop.trips) : Fin 5 → ℕ := ![0, h, (Scalar.indexCast (Scf.iv 0#32 1#32 k)).toNat, 0, 0]
abbrev offE (h : ℕ) (k : Fin k0_t1_loop.trips) (r : BitVec 32) : Fin 5 → ℕ :=
  ![0, h, (Scalar.indexCast (Scalar.addi (Scalar.muli 2#32 (Scf.iv 0#32 1#32 k)) r)).toNat, 0, 0]
abbrev offO (h : ℕ) (k : Fin k0_t1_loop.trips) (r : BitVec 32) : Fin 2 → ℕ :=
  ![(Scalar.indexCast (Scalar.addi (Scalar.muli (Scf.iv 0#32 1#32 k) 128#32) r)).toNat, 128 * h]

theorem rowA : ∀ k : Fin k0_t1_loop.trips, (Scalar.indexCast (Scalar.addi (Scalar.muli (Scf.iv 0#32 1#32 k) 128#32) 0#32)).toNat = 128 * k.val := by decide
theorem rowB : ∀ k : Fin k0_t1_loop.trips, (Scalar.indexCast (Scalar.addi (Scalar.muli (Scf.iv 0#32 1#32 k) 128#32) 64#32)).toNat = 128 * k.val + 64 := by decide
theorem pairK : ∀ k : Fin k0_t1_loop.trips, (Scalar.indexCast (Scf.iv 0#32 1#32 k)).toNat = k.val := by decide
theorem chunkA : ∀ k : Fin k0_t1_loop.trips, (Scalar.indexCast (Scalar.addi (Scalar.muli 2#32 (Scf.iv 0#32 1#32 k)) 0#32)).toNat = 2 * k.val := by decide
theorem chunkB : ∀ k : Fin k0_t1_loop.trips, (Scalar.indexCast (Scalar.addi (Scalar.muli 2#32 (Scf.iv 0#32 1#32 k)) 1#32)).toNat = 2 * k.val + 1 := by decide
theorem trips_lt (k : Fin k0_t1_loop.trips) : k.val < 4 := Nat.lt_of_lt_of_le k.isLt k0_t1_abs.2.1

theorem inbS (h : Fin 8) : ∀ a, (![h.val, 0, 0] : Fin 3 → ℕ) a + S1x128x128.size a ≤ S8x128x128.size a := by
  revert h; decide
theorem inbVA (h : Fin 8) (k : Fin k0_t1_loop.trips) : ∀ a, (offV h.val k 0#32) a + S1x1x64x128.size a ≤ S1x8x512x128.size a := by
  revert h k; decide +kernel
theorem inbVB (h : Fin 8) (k : Fin k0_t1_loop.trips) : ∀ a, (offV h.val k 64#32) a + S1x1x64x128.size a ≤ S1x8x512x128.size a := by
  revert h k; decide +kernel
theorem inbK (h : Fin 8) (k : Fin k0_t1_loop.trips) : ∀ a, (offK h.val k) a + S1x1x1x128x128.size a ≤ S1x8x4x128x128.size a := by
  revert h k; decide +kernel
theorem inbEA (h : Fin 8) (k : Fin k0_t1_loop.trips) : ∀ a, (offE h.val k 0#32) a + S1x1x1x1x128.size a ≤ S1x8x8x8x128.size a := by
  revert h k; decide +kernel
theorem inbEB (h : Fin 8) (k : Fin k0_t1_loop.trips) : ∀ a, (offE h.val k 1#32) a + S1x1x1x1x128.size a ≤ S1x8x8x8x128.size a := by
  revert h k; decide +kernel
theorem inbOA (h : Fin 8) (k : Fin k0_t1_loop.trips) : ∀ a, (offO h.val k 0#32) a + S64x128.size a ≤ S512x1024.size a := by
  revert h k; decide +kernel
theorem inbOB (h : Fin 8) (k : Fin k0_t1_loop.trips) : ∀ a, (offO h.val k 64#32) a + S64x128.size a ≤ S512x1024.size a := by
  revert h k; decide +kernel

/-! ## The loads and the head's step over them -/

variable {sp : Space}

def ldS (v : Memref sig .tc .vmem S8x128x128 .f32) (X : BufTy.Contents (Elt F) v.view.ty) (h : Fin 8) : Vec F S1x128x128 .f32 :=
  View.readAt (Elt F) v.view (Rect.unit (s := S8x128x128) ![h.val, 0, 0] S1x128x128.size (inbS h)).toLoadRect X
def ldVA {e : EltTy} (v : Memref sig .tc .vmem S1x8x512x128 e) (X : BufTy.Contents (Elt F) v.view.ty) (h : Fin 8) (k : Fin k0_t1_loop.trips) :
    Vec F S1x1x64x128 e :=
  View.readAt (Elt F) v.view (Rect.unit (s := S1x8x512x128) (offV h.val k 0#32) S1x1x64x128.size (inbVA h k)).toLoadRect X
def ldVB {e : EltTy} (v : Memref sig .tc .vmem S1x8x512x128 e) (X : BufTy.Contents (Elt F) v.view.ty) (h : Fin 8) (k : Fin k0_t1_loop.trips) :
    Vec F S1x1x64x128 e :=
  View.readAt (Elt F) v.view (Rect.unit (s := S1x8x512x128) (offV h.val k 64#32) S1x1x64x128.size (inbVB h k)).toLoadRect X
def ldK (v : Memref sig .tc .vmem S1x8x4x128x128 .bf16) (X : BufTy.Contents (Elt F) v.view.ty) (h : Fin 8) (k : Fin k0_t1_loop.trips) :
    Vec F S1x1x1x128x128 .bf16 :=
  View.readAt (Elt F) v.view (Rect.unit (s := S1x8x4x128x128) (offK h.val k) S1x1x1x128x128.size (inbK h k)).toLoadRect X
def ldEA (v : Memref sig .tc .vmem S1x8x8x8x128 .f32) (X : BufTy.Contents (Elt F) v.view.ty) (h : Fin 8) (k : Fin k0_t1_loop.trips) :
    Vec F S1x1x1x1x128 .f32 :=
  View.readAt (Elt F) v.view (Rect.unit (s := S1x8x8x8x128) (offE h.val k 0#32) S1x1x1x1x128.size (inbEA h k)).toLoadRect X
def ldEB (v : Memref sig .tc .vmem S1x8x8x8x128 .f32) (X : BufTy.Contents (Elt F) v.view.ty) (h : Fin 8) (k : Fin k0_t1_loop.trips) :
    Vec F S1x1x1x1x128 .f32 :=
  View.readAt (Elt F) v.view (Rect.unit (s := S1x8x8x8x128) (offE h.val k 1#32) S1x1x1x1x128.size (inbEB h k)).toLoadRect X

section Step
variable (arg2 : Memref sig .tc .vmem S1x8x512x128 .bf16) (arg3 : Memref sig .tc .vmem S1x8x512x128 .bf16) (arg4 : Memref sig .tc .vmem S1x8x512x128 .f32)
  (arg5 : Memref sig .tc .vmem S1x8x512x128 .bf16) (arg6 : Memref sig .tc .vmem S1x8x4x128x128 .bf16) (arg7 : Memref sig .tc .vmem S1x8x8x8x128 .f32)
  (X2 : BufTy.Contents (Elt F) arg2.view.ty) (X3 : BufTy.Contents (Elt F) arg3.view.ty) (X4 : BufTy.Contents (Elt F) arg4.view.ty)
  (X5 : BufTy.Contents (Elt F) arg5.view.ty) (X6 : BufTy.Contents (Elt F) arg6.view.ty) (X7 : BufTy.Contents (Elt F) arg7.view.ty)
  (k : Fin k0_t1_loop.trips) (h : Fin 8) (S : Vec F S1x128x128 .f32)

/-- The state after the pair's first chunk. -/
def midS : Vec F S1x128x128 .f32 :=
  stA S (ldVA arg2 X2 h k) (ldVA arg3 X3 h k) (ldVA arg4 X4 h k) (ldVA arg5 X5 h k) (ldK arg6 X6 h k) (ldEA arg7 X7 h k)
/-- The state after the pair. -/
def endS : Vec F S1x128x128 .f32 :=
  stB (midS arg2 arg3 arg4 arg5 arg6 arg7 X2 X3 X4 X5 X6 X7 k h S) (ldVB arg2 X2 h k) (ldVB arg3 X3 h k) (ldVB arg4 X4 h k) (ldVB arg5 X5 h k) (ldK arg6 X6 h k) (ldEB arg7 X7 h k)
/-- The first chunk's outputs. -/
def fstO : Vec F S64x128 .f32 :=
  outA S (ldVA arg2 X2 h k) (ldVA arg3 X3 h k) (ldVA arg4 X4 h k) (ldVA arg5 X5 h k) (ldK arg6 X6 h k)
/-- The second chunk's outputs. -/
def sndO : Vec F S64x128 .f32 :=
  outB (midS arg2 arg3 arg4 arg5 arg6 arg7 X2 X3 X4 X5 X6 X7 k h S) (ldVB arg2 X2 h k) (ldVB arg3 X3 h k) (ldVB arg4 X4 h k) (ldVB arg5 X5 h k) (ldK arg6 X6 h k)
end Step

variable (𝒱 : Variants) (c : Dev nD) (bd : Option 𝒱.V) (i : grid0.Coords) (arg2 : Memref sig .tc .vmem S1x8x512x128 .bf16) (harg2 : arg2.IsWhole) (arg3 : Memref sig .tc .vmem S1x8x512x128 .bf16) (harg3 : arg3.IsWhole) (arg4 : Memref sig .tc .vmem S1x8x512x128 .f32) (harg4 : arg4.IsWhole) (arg5 : Memref sig .tc .vmem S1x8x512x128 .bf16) (harg5 : arg5.IsWhole) (arg6 : Memref sig .tc .vmem S1x8x4x128x128 .bf16) (harg6 : arg6.IsWhole) (arg7 : Memref sig .tc .vmem S1x8x8x8x128 .f32) (harg7 : arg7.IsWhole) (arg8 : Memref sig .tc .vmem S1x512x1024 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S8x128x128 .f32) (harg11 : arg11.IsWhole) (arg12 : Memref sig .tc .vmem S512x1024 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips)
  (f : BufTy.Contents (Elt F) arg11.view.ty) (g : BufTy.Contents (Elt F) arg12.view.ty)

/-- The pieces a trip writes into the state. -/
theorem trip_state : (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 k f g).1 = [⟨Rect.unit (s := S8x128x128) ![(7 : Fin 8).val, 0, 0] S1x128x128.size (inbS 7), endS arg2 arg3 arg4 arg5 arg6 arg7 X_arg2 X_arg3 X_arg4 X_arg5 X_arg6 X_arg7 k 7 (ldS arg11 f 7)⟩, ⟨Rect.unit (s := S8x128x128) ![(6 : Fin 8).val, 0, 0] S1x128x128.size (inbS 6), endS arg2 arg3 arg4 arg5 arg6 arg7 X_arg2 X_arg3 X_arg4 X_arg5 X_arg6 X_arg7 k 6 (ldS arg11 f 6)⟩, ⟨Rect.unit (s := S8x128x128) ![(5 : Fin 8).val, 0, 0] S1x128x128.size (inbS 5), endS arg2 arg3 arg4 arg5 arg6 arg7 X_arg2 X_arg3 X_arg4 X_arg5 X_arg6 X_arg7 k 5 (ldS arg11 f 5)⟩, ⟨Rect.unit (s := S8x128x128) ![(4 : Fin 8).val, 0, 0] S1x128x128.size (inbS 4), endS arg2 arg3 arg4 arg5 arg6 arg7 X_arg2 X_arg3 X_arg4 X_arg5 X_arg6 X_arg7 k 4 (ldS arg11 f 4)⟩, ⟨Rect.unit (s := S8x128x128) ![(3 : Fin 8).val, 0, 0] S1x128x128.size (inbS 3), endS arg2 arg3 arg4 arg5 arg6 arg7 X_arg2 X_arg3 X_arg4 X_arg5 X_arg6 X_arg7 k 3 (ldS arg11 f 3)⟩, ⟨Rect.unit (s := S8x128x128) ![(2 : Fin 8).val, 0, 0] S1x128x128.size (inbS 2), endS arg2 arg3 arg4 arg5 arg6 arg7 X_arg2 X_arg3 X_arg4 X_arg5 X_arg6 X_arg7 k 2 (ldS arg11 f 2)⟩, ⟨Rect.unit (s := S8x128x128) ![(1 : Fin 8).val, 0, 0] S1x128x128.size (inbS 1), endS arg2 arg3 arg4 arg5 arg6 arg7 X_arg2 X_arg3 X_arg4 X_arg5 X_arg6 X_arg7 k 1 (ldS arg11 f 1)⟩, ⟨Rect.unit (s := S8x128x128) ![(0 : Fin 8).val, 0, 0] S1x128x128.size (inbS 0), endS arg2 arg3 arg4 arg5 arg6 arg7 X_arg2 X_arg3 X_arg4 X_arg5 X_arg6 X_arg7 k 0 (ldS arg11 f 0)⟩, ⟨Rect.unit (s := S8x128x128) ![(7 : Fin 8).val, 0, 0] S1x128x128.size (inbS 7), midS arg2 arg3 arg4 arg5 arg6 arg7 X_arg2 X_arg3 X_arg4 X_arg5 X_arg6 X_arg7 k 7 (ldS arg11 f 7)⟩, ⟨Rect.unit (s := S8x128x128) ![(6 : Fin 8).val, 0, 0] S1x128x128.size (inbS 6), midS arg2 arg3 arg4 arg5 arg6 arg7 X_arg2 X_arg3 X_arg4 X_arg5 X_arg6 X_arg7 k 6 (ldS arg11 f 6)⟩, ⟨Rect.unit (s := S8x128x128) ![(5 : Fin 8).val, 0, 0] S1x128x128.size (inbS 5), midS arg2 arg3 arg4 arg5 arg6 arg7 X_arg2 X_arg3 X_arg4 X_arg5 X_arg6 X_arg7 k 5 (ldS arg11 f 5)⟩, ⟨Rect.unit (s := S8x128x128) ![(4 : Fin 8).val, 0, 0] S1x128x128.size (inbS 4), midS arg2 arg3 arg4 arg5 arg6 arg7 X_arg2 X_arg3 X_arg4 X_arg5 X_arg6 X_arg7 k 4 (ldS arg11 f 4)⟩, ⟨Rect.unit (s := S8x128x128) ![(3 : Fin 8).val, 0, 0] S1x128x128.size (inbS 3), midS arg2 arg3 arg4 arg5 arg6 arg7 X_arg2 X_arg3 X_arg4 X_arg5 X_arg6 X_arg7 k 3 (ldS arg11 f 3)⟩, ⟨Rect.unit (s := S8x128x128) ![(2 : Fin 8).val, 0, 0] S1x128x128.size (inbS 2), midS arg2 arg3 arg4 arg5 arg6 arg7 X_arg2 X_arg3 X_arg4 X_arg5 X_arg6 X_arg7 k 2 (ldS arg11 f 2)⟩, ⟨Rect.unit (s := S8x128x128) ![(1 : Fin 8).val, 0, 0] S1x128x128.size (inbS 1), midS arg2 arg3 arg4 arg5 arg6 arg7 X_arg2 X_arg3 X_arg4 X_arg5 X_arg6 X_arg7 k 1 (ldS arg11 f 1)⟩, ⟨Rect.unit (s := S8x128x128) ![(0 : Fin 8).val, 0, 0] S1x128x128.size (inbS 0), midS arg2 arg3 arg4 arg5 arg6 arg7 X_arg2 X_arg3 X_arg4 X_arg5 X_arg6 X_arg7 k 0 (ldS arg11 f 0)⟩] := by
  unfold tripL_k0_t1 trip_k0_t1
  dsimp only
  sl_unfold_words
  simp (disch := decide) only [View.readCov_cons_toLoadRect, View.readCov_skip]
  rfl

/-- The pieces a trip writes into the outputs. -/
theorem trip_outs : (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 k f g).2 = [⟨Rect.unit (s := S512x1024) (offO (7 : Fin 8).val k 64#32) S64x128.size (inbOB 7 k), sndO arg2 arg3 arg4 arg5 arg6 arg7 X_arg2 X_arg3 X_arg4 X_arg5 X_arg6 X_arg7 k 7 (ldS arg11 f 7)⟩, ⟨Rect.unit (s := S512x1024) (offO (6 : Fin 8).val k 64#32) S64x128.size (inbOB 6 k), sndO arg2 arg3 arg4 arg5 arg6 arg7 X_arg2 X_arg3 X_arg4 X_arg5 X_arg6 X_arg7 k 6 (ldS arg11 f 6)⟩, ⟨Rect.unit (s := S512x1024) (offO (5 : Fin 8).val k 64#32) S64x128.size (inbOB 5 k), sndO arg2 arg3 arg4 arg5 arg6 arg7 X_arg2 X_arg3 X_arg4 X_arg5 X_arg6 X_arg7 k 5 (ldS arg11 f 5)⟩, ⟨Rect.unit (s := S512x1024) (offO (4 : Fin 8).val k 64#32) S64x128.size (inbOB 4 k), sndO arg2 arg3 arg4 arg5 arg6 arg7 X_arg2 X_arg3 X_arg4 X_arg5 X_arg6 X_arg7 k 4 (ldS arg11 f 4)⟩, ⟨Rect.unit (s := S512x1024) (offO (3 : Fin 8).val k 64#32) S64x128.size (inbOB 3 k), sndO arg2 arg3 arg4 arg5 arg6 arg7 X_arg2 X_arg3 X_arg4 X_arg5 X_arg6 X_arg7 k 3 (ldS arg11 f 3)⟩, ⟨Rect.unit (s := S512x1024) (offO (2 : Fin 8).val k 64#32) S64x128.size (inbOB 2 k), sndO arg2 arg3 arg4 arg5 arg6 arg7 X_arg2 X_arg3 X_arg4 X_arg5 X_arg6 X_arg7 k 2 (ldS arg11 f 2)⟩, ⟨Rect.unit (s := S512x1024) (offO (1 : Fin 8).val k 64#32) S64x128.size (inbOB 1 k), sndO arg2 arg3 arg4 arg5 arg6 arg7 X_arg2 X_arg3 X_arg4 X_arg5 X_arg6 X_arg7 k 1 (ldS arg11 f 1)⟩, ⟨Rect.unit (s := S512x1024) (offO (0 : Fin 8).val k 64#32) S64x128.size (inbOB 0 k), sndO arg2 arg3 arg4 arg5 arg6 arg7 X_arg2 X_arg3 X_arg4 X_arg5 X_arg6 X_arg7 k 0 (ldS arg11 f 0)⟩, ⟨Rect.unit (s := S512x1024) (offO (7 : Fin 8).val k 0#32) S64x128.size (inbOA 7 k), fstO arg2 arg3 arg4 arg5 arg6 X_arg2 X_arg3 X_arg4 X_arg5 X_arg6 k 7 (ldS arg11 f 7)⟩, ⟨Rect.unit (s := S512x1024) (offO (6 : Fin 8).val k 0#32) S64x128.size (inbOA 6 k), fstO arg2 arg3 arg4 arg5 arg6 X_arg2 X_arg3 X_arg4 X_arg5 X_arg6 k 6 (ldS arg11 f 6)⟩, ⟨Rect.unit (s := S512x1024) (offO (5 : Fin 8).val k 0#32) S64x128.size (inbOA 5 k), fstO arg2 arg3 arg4 arg5 arg6 X_arg2 X_arg3 X_arg4 X_arg5 X_arg6 k 5 (ldS arg11 f 5)⟩, ⟨Rect.unit (s := S512x1024) (offO (4 : Fin 8).val k 0#32) S64x128.size (inbOA 4 k), fstO arg2 arg3 arg4 arg5 arg6 X_arg2 X_arg3 X_arg4 X_arg5 X_arg6 k 4 (ldS arg11 f 4)⟩, ⟨Rect.unit (s := S512x1024) (offO (3 : Fin 8).val k 0#32) S64x128.size (inbOA 3 k), fstO arg2 arg3 arg4 arg5 arg6 X_arg2 X_arg3 X_arg4 X_arg5 X_arg6 k 3 (ldS arg11 f 3)⟩, ⟨Rect.unit (s := S512x1024) (offO (2 : Fin 8).val k 0#32) S64x128.size (inbOA 2 k), fstO arg2 arg3 arg4 arg5 arg6 X_arg2 X_arg3 X_arg4 X_arg5 X_arg6 k 2 (ldS arg11 f 2)⟩, ⟨Rect.unit (s := S512x1024) (offO (1 : Fin 8).val k 0#32) S64x128.size (inbOA 1 k), fstO arg2 arg3 arg4 arg5 arg6 X_arg2 X_arg3 X_arg4 X_arg5 X_arg6 k 1 (ldS arg11 f 1)⟩, ⟨Rect.unit (s := S512x1024) (offO (0 : Fin 8).val k 0#32) S64x128.size (inbOA 0 k), fstO arg2 arg3 arg4 arg5 arg6 X_arg2 X_arg3 X_arg4 X_arg5 X_arg6 k 0 (ldS arg11 f 0)⟩] := by
  unfold tripL_k0_t1 trip_k0_t1
  dsimp only
  sl_unfold_words
  simp (disch := decide) only [View.readCov_cons_toLoadRect, View.readCov_skip]
  rfl

/-! ## What the two buffers read after a trip -/

theorem ldS_hit (v : Memref sig .tc .vmem S8x128x128 .f32) (X : BufTy.Contents (Elt F) v.view.ty) (h : Fin 8)
    (w : Vec F S1x128x128 .f32) (L : List (View.Piece (Elt F) S8x128x128 .f32)) :
    ldS v (v.view.writes (Elt F) X (⟨Rect.unit (s := S8x128x128) ![h.val, 0, 0] S1x128x128.size (inbS h), w⟩ :: L)) h = w := by
  funext x
  exact View.read_writes_cons_emb v.view X (Rect.unit (s := S8x128x128) ![h.val, 0, 0] S1x128x128.size (inbS h)) w L x

theorem ldS_miss (v : Memref sig .tc .vmem S8x128x128 .f32) (X : BufTy.Contents (Elt F) v.view.ty) (h h' : Fin 8) (hne : h.val ≠ h'.val)
    (w : Vec F S1x128x128 .f32) (L : List (View.Piece (Elt F) S8x128x128 .f32)) :
    ldS v (v.view.writes (Elt F) X (⟨Rect.unit (s := S8x128x128) ![h'.val, 0, 0] S1x128x128.size (inbS h'), w⟩ :: L)) h
      = ldS v (v.view.writes (Elt F) X L) h := by
  funext x
  refine View.read_writes_cons_unit_of_not_mem v.view X (inbS h') w L _ rfl 0 ?_
  have hx : (x 0).val < 1 := (x 0).isLt
  show h.val + 1 * (x 0).val < h'.val ∨ h'.val + 1 ≤ h.val + 1 * (x 0).val
  omega

/-- The state a head holds after a trip. -/
theorem trip_ldS (h : Fin 8) : ldS arg11 (arg11.view.writes (Elt F) f (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 k f g).1) h
    = endS arg2 arg3 arg4 arg5 arg6 arg7 X_arg2 X_arg3 X_arg4 X_arg5 X_arg6 X_arg7 k h (ldS arg11 f h) := by
  rw [trip_state]
  obtain rfl | rfl | rfl | rfl | rfl | rfl | rfl | rfl : h = 0 ∨ h = 1 ∨ h = 2 ∨ h = 3 ∨ h = 4 ∨ h = 5 ∨ h = 6 ∨ h = 7 := by omega
  · rw [ldS_miss arg11 f _ _ (by decide), ldS_miss arg11 f _ _ (by decide), ldS_miss arg11 f _ _ (by decide), ldS_miss arg11 f _ _ (by decide), ldS_miss arg11 f _ _ (by decide), ldS_miss arg11 f _ _ (by decide), ldS_miss arg11 f _ _ (by decide), ldS_hit]
  · rw [ldS_miss arg11 f _ _ (by decide), ldS_miss arg11 f _ _ (by decide), ldS_miss arg11 f _ _ (by decide), ldS_miss arg11 f _ _ (by decide), ldS_miss arg11 f _ _ (by decide), ldS_miss arg11 f _ _ (by decide), ldS_hit]
  · rw [ldS_miss arg11 f _ _ (by decide), ldS_miss arg11 f _ _ (by decide), ldS_miss arg11 f _ _ (by decide), ldS_miss arg11 f _ _ (by decide), ldS_miss arg11 f _ _ (by decide), ldS_hit]
  · rw [ldS_miss arg11 f _ _ (by decide), ldS_miss arg11 f _ _ (by decide), ldS_miss arg11 f _ _ (by decide), ldS_miss arg11 f _ _ (by decide), ldS_hit]
  · rw [ldS_miss arg11 f _ _ (by decide), ldS_miss arg11 f _ _ (by decide), ldS_miss arg11 f _ _ (by decide), ldS_hit]
  · rw [ldS_miss arg11 f _ _ (by decide), ldS_miss arg11 f _ _ (by decide), ldS_hit]
  · rw [ldS_miss arg11 f _ _ (by decide), ldS_hit]
  · rw [ldS_hit]

/-- Reading the outputs past a piece whose rows are elsewhere, or whose head is. -/
theorem rdO_miss (v : Memref sig .tc .vmem S512x1024 .f32) (X : BufTy.Contents (Elt F) v.view.ty) (o : Fin 2 → ℕ) (r c : ℕ) (ho : o = ![r, c])
    (inb : ∀ a, o a + S64x128.size a ≤ S512x1024.size a) (w : Vec F S64x128 .f32) (L : List (View.Piece (Elt F) S512x1024 .f32))
    (y0 : Fin 512) (y1 : Fin 1024) (hne : (y0.val < r ∨ r + 64 ≤ y0.val) ∨ (y1.val < c ∨ c + 128 ≤ y1.val)) :
    v.view.read (Elt F) (v.view.writes (Elt F) X (⟨Rect.unit (s := S512x1024) o S64x128.size inb, w⟩ :: L)) (ix2 y0 y1 : S512x1024.Idx)
      = v.view.read (Elt F) (v.view.writes (Elt F) X L) (ix2 y0 y1 : S512x1024.Idx) := by
  rcases hne with hne | hne
  · exact View.read_writes_cons_unit_of_not_mem v.view X inb w L (ix2 y0 y1 : S512x1024.Idx) ho 0 hne
  · exact View.read_writes_cons_unit_of_not_mem v.view X inb w L (ix2 y0 y1 : S512x1024.Idx) ho 1 hne

theorem rdO_hit (v : Memref sig .tc .vmem S512x1024 .f32) (X : BufTy.Contents (Elt F) v.view.ty) (o : Fin 2 → ℕ) (r c : ℕ) (ho : o = ![r, c])
    (inb : ∀ a, o a + S64x128.size a ≤ S512x1024.size a) (w : Vec F S64x128 .f32) (L : List (View.Piece (Elt F) S512x1024 .f32))
    (y0 : Fin 512) (y1 : Fin 1024) (x0 : Fin 64) (x1 : Fin 128) (h0 : y0.val = r + x0.val) (h1 : y1.val = c + x1.val) :
    v.view.read (Elt F) (v.view.writes (Elt F) X (⟨Rect.unit (s := S512x1024) o S64x128.size inb, w⟩ :: L)) (ix2 y0 y1 : S512x1024.Idx)
      = w (ix2 x0 x1 : S64x128.Idx) := by
  refine View.read_writes_cons_unit_of_mem v.view X inb w L (ix2 y0 y1 : S512x1024.Idx) (ix2 x0 x1 : S64x128.Idx) ho fun a => ?_
  fin_cases a
  · exact h0
  · exact h1

theorem offO_A (h : ℕ) (k : Fin k0_t1_loop.trips) : offO h k 0#32 = ![128 * k.val, 128 * h] := by unfold offO; rw [rowA]
theorem offO_B (h : ℕ) (k : Fin k0_t1_loop.trips) : offO h k 64#32 = ![128 * k.val + 64, 128 * h] := by unfold offO; rw [rowB]

/-- The outputs after a trip, at a row of its first chunk. -/
theorem trip_rdA (h : Fin 8) (y0 : Fin 512) (y1 : Fin 1024) (x0 : Fin 64) (x1 : Fin 128) (h0 : y0.val = 128 * k.val + x0.val) (h1 : y1.val = 128 * h.val + x1.val) :
    arg12.view.read (Elt F) (arg12.view.writes (Elt F) g (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 k f g).2) (ix2 y0 y1 : S512x1024.Idx)
      = fstO arg2 arg3 arg4 arg5 arg6 X_arg2 X_arg3 X_arg4 X_arg5 X_arg6 k h (ldS arg11 f h) (ix2 x0 x1 : S64x128.Idx) := by
  rw [trip_outs]
  obtain rfl | rfl | rfl | rfl | rfl | rfl | rfl | rfl : h = 0 ∨ h = 1 ∨ h = 2 ∨ h = 3 ∨ h = 4 ∨ h = 5 ∨ h = 6 ∨ h = 7 := by omega
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    refine (rdO_miss arg12 g _ _ _ (offO_B 5 k) _ _ _ _ _ (by have hh0 := x0.isLt; have hh1 := x1.isLt; omega)).trans ?_
    refine (rdO_miss arg12 g _ _ _ (offO_B 4 k) _ _ _ _ _ (by have hh0 := x0.isLt; have hh1 := x1.isLt; omega)).trans ?_
    refine (rdO_miss arg12 g _ _ _ (offO_B 3 k) _ _ _ _ _ (by have hh0 := x0.isLt; have hh1 := x1.isLt; omega)).trans ?_
    refine (rdO_miss arg12 g _ _ _ (offO_B 2 k) _ _ _ _ _ (by have hh0 := x0.isLt; have hh1 := x1.isLt; omega)).trans ?_
    refine (rdO_miss arg12 g _ _ _ (offO_B 1 k) _ _ _ _ _ (by have hh0 := x0.isLt; have hh1 := x1.isLt; omega)).trans ?_
    refine (rdO_miss arg12 g _ _ _ (offO_B 0 k) _ _ _ _ _ (by have hh0 := x0.isLt; have hh1 := x1.isLt; omega)).trans ?_
    refine (rdO_miss arg12 g _ _ _ (offO_A 7 k) _ _ _ _ _ (by have hh0 := x0.isLt; have hh1 := x1.isLt; omega)).trans ?_
    refine (rdO_miss arg12 g _ _ _ (offO_A 6 k) _ _ _ _ _ (by have hh0 := x0.isLt; have hh1 := x1.isLt; omega)).trans ?_
    refine (rdO_miss arg12 g _ _ _ (offO_A 5 k) _ _ _ _ _ (by have hh0 := x0.isLt; have hh1 := x1.isLt; omega)).trans ?_
    refine (rdO_miss arg12 g _ _ _ (offO_A 4 k) _ _ _ _ _ (by have hh0 := x0.isLt; have hh1 := x1.isLt; omega)).trans ?_
    refine (rdO_miss arg12 g _ _ _ (offO_A 3 k) _ _ _ _ _ (by have hh0 := x0.isLt; have hh1 := x1.isLt; omega)).trans ?_
    refine (rdO_miss arg12 g _ _ _ (offO_A 2 k) _ _ _ _ _ (by have hh0 := x0.isLt; have hh1 := x1.isLt; omega)).trans ?_
    refine (rdO_miss arg12 g _ _ _ (offO_A 1 k) _ _ _ _ _ (by have hh0 := x0.isLt; have hh1 := x1.isLt; omega)).trans ?_
    exact rdO_hit arg12 g _ _ _ (offO_A 0 k) _ _ _ _ _ x0 x1 (by omega) h1
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    refine (rdO_miss arg12 g _ _ _ (offO_B 5 k) _ _ _ _ _ (by have hh0 := x0.isLt; have hh1 := x1.isLt; omega)).trans ?_
    refine (rdO_miss arg12 g _ _ _ (offO_B 4 k) _ _ _ _ _ (by have hh0 := x0.isLt; have hh1 := x1.isLt; omega)).trans ?_
    refine (rdO_miss arg12 g _ _ _ (offO_B 3 k) _ _ _ _ _ (by have hh0 := x0.isLt; have hh1 := x1.isLt; omega)).trans ?_
    refine (rdO_miss arg12 g _ _ _ (offO_B 2 k) _ _ _ _ _ (by have hh0 := x0.isLt; have hh1 := x1.isLt; omega)).trans ?_
    refine (rdO_miss arg12 g _ _ _ (offO_B 1 k) _ _ _ _ _ (by have hh0 := x0.isLt; have hh1 := x1.isLt; omega)).trans ?_
    refine (rdO_miss arg12 g _ _ _ (offO_B 0 k) _ _ _ _ _ (by have hh0 := x0.isLt; have hh1 := x1.isLt; omega)).trans ?_
    refine (rdO_miss arg12 g _ _ _ (offO_A 7 k) _ _ _ _ _ (by have hh0 := x0.isLt; have hh1 := x1.isLt; omega)).trans ?_
    refine (rdO_miss arg12 g _ _ _ (offO_A 6 k) _ _ _ _ _ (by have hh0 := x0.isLt; have hh1 := x1.isLt; omega)).trans ?_
    refine (rdO_miss arg12 g _ _ _ (offO_A 5 k) _ _ _ _ _ (by have hh0 := x0.isLt; have hh1 := x1.isLt; omega)).trans ?_
    refine (rdO_miss arg12 g _ _ _ (offO_A 4 k) _ _ _ _ _ (by have hh0 := x0.isLt; have hh1 := x1.isLt; omega)).trans ?_
    refine (rdO_miss arg12 g _ _ _ (offO_A 3 k) _ _ _ _ _ (by have hh0 := x0.isLt; have hh1 := x1.isLt; omega)).trans ?_
    refine (rdO_miss arg12 g _ _ _ (offO_A 2 k) _ _ _ _ _ (by have hh0 := x0.isLt; have hh1 := x1.isLt; omega)).trans ?_
    exact rdO_hit arg12 g _ _ _ (offO_A 1 k) _ _ _ _ _ x0 x1 (by omega) h1
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    refine (rdO_miss arg12 g _ _ _ (offO_B 5 k) _ _ _ _ _ (by have hh0 := x0.isLt; have hh1 := x1.isLt; omega)).trans ?_
    refine (rdO_miss arg12 g _ _ _ (offO_B 4 k) _ _ _ _ _ (by have hh0 := x0.isLt; have hh1 := x1.isLt; omega)).trans ?_
    refine (rdO_miss arg12 g _ _ _ (offO_B 3 k) _ _ _ _ _ (by have hh0 := x0.isLt; have hh1 := x1.isLt; omega)).trans ?_
    refine (rdO_miss arg12 g _ _ _ (offO_B 2 k) _ _ _ _ _ (by have hh0 := x0.isLt; have hh1 := x1.isLt; omega)).trans ?_
    refine (rdO_miss arg12 g _ _ _ (offO_B 1 k) _ _ _ _ _ (by have hh0 := x0.isLt; have hh1 := x1.isLt; omega)).trans ?_
    refine (rdO_miss arg12 g _ _ _ (offO_B 0 k) _ _ _ _ _ (by have hh0 := x0.isLt; have hh1 := x1.isLt; omega)).trans ?_
    refine (rdO_miss arg12 g _ _ _ (offO_A 7 k) _ _ _ _ _ (by have hh0 := x0.isLt; have hh1 := x1.isLt; omega)).trans ?_
    refine (rdO_miss arg12 g _ _ _ (offO_A 6 k) _ _ _ _ _ (by have hh0 := x0.isLt; have hh1 := x1.isLt; omega)).trans ?_
    refine (rdO_miss arg12 g _ _ _ (offO_A 5 k) _ _ _ _ _ (by have hh0 := x0.isLt; have hh1 := x1.isLt; omega)).trans ?_
    refine (rdO_miss arg12 g _ _ _ (offO_A 4 k) _ _ _ _ _ (by have hh0 := x0.isLt; have hh1 := x1.isLt; omega)).trans ?_
    refine (rdO_miss arg12 g _ _ _ (offO_A 3 k) _ _ _ _ _ (by have hh0 := x0.isLt; have hh1 := x1.isLt; omega)).trans ?_
    exact rdO_hit arg12 g _ _ _ (offO_A 2 k) _ _ _ _ _ x0 x1 (by omega) h1
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    refine (rdO_miss arg12 g _ _ _ (offO_B 5 k) _ _ _ _ _ (by have hh0 := x0.isLt; have hh1 := x1.isLt; omega)).trans ?_
    refine (rdO_miss arg12 g _ _ _ (offO_B 4 k) _ _ _ _ _ (by have hh0 := x0.isLt; have hh1 := x1.isLt; omega)).trans ?_
    refine (rdO_miss arg12 g _ _ _ (offO_B 3 k) _ _ _ _ _ (by have hh0 := x0.isLt; have hh1 := x1.isLt; omega)).trans ?_
    refine (rdO_miss arg12 g _ _ _ (offO_B 2 k) _ _ _ _ _ (by have hh0 := x0.isLt; have hh1 := x1.isLt; omega)).trans ?_
    refine (rdO_miss arg12 g _ _ _ (offO_B 1 k) _ _ _ _ _ (by have hh0 := x0.isLt; have hh1 := x1.isLt; omega)).trans ?_
    refine (rdO_miss arg12 g _ _ _ (offO_B 0 k) _ _ _ _ _ (by have hh0 := x0.isLt; have hh1 := x1.isLt; omega)).trans ?_
    refine (rdO_miss arg12 g _ _ _ (offO_A 7 k) _ _ _ _ _ (by have hh0 := x0.isLt; have hh1 := x1.isLt; omega)).trans ?_
    refine (rdO_miss arg12 g _ _ _ (offO_A 6 k) _ _ _ _ _ (by have hh0 := x0.isLt; have hh1 := x1.isLt; omega)).trans ?_
    refine (rdO_miss arg12 g _ _ _ (offO_A 5 k) _ _ _ _ _ (by have hh0 := x0.isLt; have hh1 := x1.isLt; omega)).trans ?_
    refine (rdO_miss arg12 g _ _ _ (offO_A 4 k) _ _ _ _ _ (by have hh0 := x0.isLt; have hh1 := x1.isLt; omega)).trans ?_
    exact rdO_hit arg12 g _ _ _ (offO_A 3 k) _ _ _ _ _ x0 x1 (by omega) h1
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    refine (rdO_miss arg12 g _ _ _ (offO_B 5 k) _ _ _ _ _ (by have hh0 := x0.isLt; have hh1 := x1.isLt; omega)).trans ?_
    refine (rdO_miss arg12 g _ _ _ (offO_B 4 k) _ _ _ _ _ (by have hh0 := x0.isLt; have hh1 := x1.isLt; omega)).trans ?_
    refine (rdO_miss arg12 g _ _ _ (offO_B 3 k) _ _ _ _ _ (by have hh0 := x0.isLt; have hh1 := x1.isLt; omega)).trans ?_
    refine (rdO_miss arg12 g _ _ _ (offO_B 2 k) _ _ _ _ _ (by have hh0 := x0.isLt; have hh1 := x1.isLt; omega)).trans ?_
    refine (rdO_miss arg12 g _ _ _ (offO_B 1 k) _ _ _ _ _ (by have hh0 := x0.isLt; have hh1 := x1.isLt; omega)).trans ?_
    refine (rdO_miss arg12 g _ _ _ (offO_B 0 k) _ _ _ _ _ (by have hh0 := x0.isLt; have hh1 := x1.isLt; omega)).trans ?_
    refine (rdO_miss arg12 g _ _ _ (offO_A 7 k) _ _ _ _ _ (by have hh0 := x0.isLt; have hh1 := x1.isLt; omega)).trans ?_
    refine (rdO_miss arg12 g _ _ _ (offO_A 6 k) _ _ _ _ _ (by have hh0 := x0.isLt; have hh1 := x1.isLt; omega)).trans ?_
    refine (rdO_miss arg12 g _ _ _ (offO_A 5 k) _ _ _ _ _ (by have hh0 := x0.isLt; have hh1 := x1.isLt; omega)).trans ?_
    exact rdO_hit arg12 g _ _ _ (offO_A 4 k) _ _ _ _ _ x0 x1 (by omega) h1
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    refine (rdO_miss arg12 g _ _ _ (offO_B 5 k) _ _ _ _ _ (by have hh0 := x0.isLt; have hh1 := x1.isLt; omega)).trans ?_
    refine (rdO_miss arg12 g _ _ _ (offO_B 4 k) _ _ _ _ _ (by have hh0 := x0.isLt; have hh1 := x1.isLt; omega)).trans ?_
    refine (rdO_miss arg12 g _ _ _ (offO_B 3 k) _ _ _ _ _ (by have hh0 := x0.isLt; have hh1 := x1.isLt; omega)).trans ?_
    refine (rdO_miss arg12 g _ _ _ (offO_B 2 k) _ _ _ _ _ (by have hh0 := x0.isLt; have hh1 := x1.isLt; omega)).trans ?_
    refine (rdO_miss arg12 g _ _ _ (offO_B 1 k) _ _ _ _ _ (by have hh0 := x0.isLt; have hh1 := x1.isLt; omega)).trans ?_
    refine (rdO_miss arg12 g _ _ _ (offO_B 0 k) _ _ _ _ _ (by have hh0 := x0.isLt; have hh1 := x1.isLt; omega)).trans ?_
    refine (rdO_miss arg12 g _ _ _ (offO_A 7 k) _ _ _ _ _ (by have hh0 := x0.isLt; have hh1 := x1.isLt; omega)).trans ?_
    refine (rdO_miss arg12 g _ _ _ (offO_A 6 k) _ _ _ _ _ (by have hh0 := x0.isLt; have hh1 := x1.isLt; omega)).trans ?_
    exact rdO_hit arg12 g _ _ _ (offO_A 5 k) _ _ _ _ _ x0 x1 (by omega) h1
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    refine (rdO_miss arg12 g _ _ _ (offO_B 5 k) _ _ _ _ _ (by have hh0 := x0.isLt; have hh1 := x1.isLt; omega)).trans ?_
    refine (rdO_miss arg12 g _ _ _ (offO_B 4 k) _ _ _ _ _ (by have hh0 := x0.isLt; have hh1 := x1.isLt; omega)).trans ?_
    refine (rdO_miss arg12 g _ _ _ (offO_B 3 k) _ _ _ _ _ (by have hh0 := x0.isLt; have hh1 := x1.isLt; omega)).trans ?_
    refine (rdO_miss arg12 g _ _ _ (offO_B 2 k) _ _ _ _ _ (by have hh0 := x0.isLt; have hh1 := x1.isLt; omega)).trans ?_
    refine (rdO_miss arg12 g _ _ _ (offO_B 1 k) _ _ _ _ _ (by have hh0 := x0.isLt; have hh1 := x1.isLt; omega)).trans ?_
    refine (rdO_miss arg12 g _ _ _ (offO_B 0 k) _ _ _ _ _ (by have hh0 := x0.isLt; have hh1 := x1.isLt; omega)).trans ?_
    refine (rdO_miss arg12 g _ _ _ (offO_A 7 k) _ _ _ _ _ (by have hh0 := x0.isLt; have hh1 := x1.isLt; omega)).trans ?_
    exact rdO_hit arg12 g _ _ _ (offO_A 6 k) _ _ _ _ _ x0 x1 (by omega) h1
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    refine (rdO_miss arg12 g _ _ _ (offO_B 5 k) _ _ _ _ _ (by have hh0 := x0.isLt; have hh1 := x1.isLt; omega)).trans ?_
    refine (rdO_miss arg12 g _ _ _ (offO_B 4 k) _ _ _ _ _ (by have hh0 := x0.isLt; have hh1 := x1.isLt; omega)).trans ?_
    refine (rdO_miss arg12 g _ _ _ (offO_B 3 k) _ _ _ _ _ (by have hh0 := x0.isLt; have hh1 := x1.isLt; omega)).trans ?_
    refine (rdO_miss arg12 g _ _ _ (offO_B 2 k) _ _ _ _ _ (by have hh0 := x0.isLt; have hh1 := x1.isLt; omega)).trans ?_
    refine (rdO_miss arg12 g _ _ _ (offO_B 1 k) _ _ _ _ _ (by have hh0 := x0.isLt; have hh1 := x1.isLt; omega)).trans ?_
    refine (rdO_miss arg12 g _ _ _ (offO_B 0 k) _ _ _ _ _ (by have hh0 := x0.isLt; have hh1 := x1.isLt; omega)).trans ?_
    exact rdO_hit arg12 g _ _ _ (offO_A 7 k) _ _ _ _ _ x0 x1 (by omega) h1

/-- The outputs after a trip, at a row of its second chunk. -/
theorem trip_rdB (h : Fin 8) (y0 : Fin 512) (y1 : Fin 1024) (x0 : Fin 64) (x1 : Fin 128) (h0 : y0.val = 128 * k.val + 64 + x0.val) (h1 : y1.val = 128 * h.val + x1.val) :
    arg12.view.read (Elt F) (arg12.view.writes (Elt F) g (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 k f g).2) (ix2 y0 y1 : S512x1024.Idx)
      = sndO arg2 arg3 arg4 arg5 arg6 arg7 X_arg2 X_arg3 X_arg4 X_arg5 X_arg6 X_arg7 k h (ldS arg11 f h) (ix2 x0 x1 : S64x128.Idx) := by
  rw [trip_outs]
  obtain rfl | rfl | rfl | rfl | rfl | rfl | rfl | rfl : h = 0 ∨ h = 1 ∨ h = 2 ∨ h = 3 ∨ h = 4 ∨ h = 5 ∨ h = 6 ∨ h = 7 := by omega
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    refine (rdO_miss arg12 g _ _ _ (offO_B 5 k) _ _ _ _ _ (by have hh0 := x0.isLt; have hh1 := x1.isLt; omega)).trans ?_
    refine (rdO_miss arg12 g _ _ _ (offO_B 4 k) _ _ _ _ _ (by have hh0 := x0.isLt; have hh1 := x1.isLt; omega)).trans ?_
    refine (rdO_miss arg12 g _ _ _ (offO_B 3 k) _ _ _ _ _ (by have hh0 := x0.isLt; have hh1 := x1.isLt; omega)).trans ?_
    refine (rdO_miss arg12 g _ _ _ (offO_B 2 k) _ _ _ _ _ (by have hh0 := x0.isLt; have hh1 := x1.isLt; omega)).trans ?_
    refine (rdO_miss arg12 g _ _ _ (offO_B 1 k) _ _ _ _ _ (by have hh0 := x0.isLt; have hh1 := x1.isLt; omega)).trans ?_
    exact rdO_hit arg12 g _ _ _ (offO_B 0 k) _ _ _ _ _ x0 x1 (by omega) h1
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    refine (rdO_miss arg12 g _ _ _ (offO_B 5 k) _ _ _ _ _ (by have hh0 := x0.isLt; have hh1 := x1.isLt; omega)).trans ?_
    refine (rdO_miss arg12 g _ _ _ (offO_B 4 k) _ _ _ _ _ (by have hh0 := x0.isLt; have hh1 := x1.isLt; omega)).trans ?_
    refine (rdO_miss arg12 g _ _ _ (offO_B 3 k) _ _ _ _ _ (by have hh0 := x0.isLt; have hh1 := x1.isLt; omega)).trans ?_
    refine (rdO_miss arg12 g _ _ _ (offO_B 2 k) _ _ _ _ _ (by have hh0 := x0.isLt; have hh1 := x1.isLt; omega)).trans ?_
    exact rdO_hit arg12 g _ _ _ (offO_B 1 k) _ _ _ _ _ x0 x1 (by omega) h1
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    refine (rdO_miss arg12 g _ _ _ (offO_B 5 k) _ _ _ _ _ (by have hh0 := x0.isLt; have hh1 := x1.isLt; omega)).trans ?_
    refine (rdO_miss arg12 g _ _ _ (offO_B 4 k) _ _ _ _ _ (by have hh0 := x0.isLt; have hh1 := x1.isLt; omega)).trans ?_
    refine (rdO_miss arg12 g _ _ _ (offO_B 3 k) _ _ _ _ _ (by have hh0 := x0.isLt; have hh1 := x1.isLt; omega)).trans ?_
    exact rdO_hit arg12 g _ _ _ (offO_B 2 k) _ _ _ _ _ x0 x1 (by omega) h1
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    refine (rdO_miss arg12 g _ _ _ (offO_B 5 k) _ _ _ _ _ (by have hh0 := x0.isLt; have hh1 := x1.isLt; omega)).trans ?_
    refine (rdO_miss arg12 g _ _ _ (offO_B 4 k) _ _ _ _ _ (by have hh0 := x0.isLt; have hh1 := x1.isLt; omega)).trans ?_
    exact rdO_hit arg12 g _ _ _ (offO_B 3 k) _ _ _ _ _ x0 x1 (by omega) h1
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    refine (rdO_miss arg12 g _ _ _ (offO_B 5 k) _ _ _ _ _ (by have hh0 := x0.isLt; have hh1 := x1.isLt; omega)).trans ?_
    exact rdO_hit arg12 g _ _ _ (offO_B 4 k) _ _ _ _ _ x0 x1 (by omega) h1
  · refine (rdO_miss arg12 g _ _ _ (offO_B 7 k) _ _ _ _ _ (by have hh0 := x0.isLt; have hh1 := x1.isLt; omega)).trans ?_
    refine (rdO_miss arg12 g _ _ _ (offO_B 6 k) _ _ _ _ _ (by have hh0 := x0.isLt; have hh1 := x1.isLt; omega)).trans ?_
    exact rdO_hit arg12 g _ _ _ (offO_B 5 k) _ _ _ _ _ x0 x1 (by omega) h1
  · refine (rdO_miss arg12 g _ _ _ (offO_B 7 k) _ _ _ _ _ (by have hh0 := x0.isLt; have hh1 := x1.isLt; omega)).trans ?_
    exact rdO_hit arg12 g _ _ _ (offO_B 6 k) _ _ _ _ _ x0 x1 (by omega) h1
  · exact rdO_hit arg12 g _ _ _ (offO_B 7 k) _ _ _ _ _ x0 x1 (by omega) h1

/-- The rows of the other trips stay. -/
theorem trip_rdN (y0 : Fin 512) (y1 : Fin 1024) (h0 : y0.val < 128 * k.val) :
    arg12.view.read (Elt F) (arg12.view.writes (Elt F) g (tripL_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 k f g).2) (ix2 y0 y1 : S512x1024.Idx)
      = arg12.view.read (Elt F) g (ix2 y0 y1 : S512x1024.Idx) := by
  rw [trip_outs]
  refine (rdO_miss arg12 g _ _ _ (offO_B 7 k) _ _ _ _ _ (by omega)).trans ?_
  refine (rdO_miss arg12 g _ _ _ (offO_B 6 k) _ _ _ _ _ (by omega)).trans ?_
  refine (rdO_miss arg12 g _ _ _ (offO_B 5 k) _ _ _ _ _ (by omega)).trans ?_
  refine (rdO_miss arg12 g _ _ _ (offO_B 4 k) _ _ _ _ _ (by omega)).trans ?_
  refine (rdO_miss arg12 g _ _ _ (offO_B 3 k) _ _ _ _ _ (by omega)).trans ?_
  refine (rdO_miss arg12 g _ _ _ (offO_B 2 k) _ _ _ _ _ (by omega)).trans ?_
  refine (rdO_miss arg12 g _ _ _ (offO_B 1 k) _ _ _ _ _ (by omega)).trans ?_
  refine (rdO_miss arg12 g _ _ _ (offO_B 0 k) _ _ _ _ _ (by omega)).trans ?_
  refine (rdO_miss arg12 g _ _ _ (offO_A 7 k) _ _ _ _ _ (by omega)).trans ?_
  refine (rdO_miss arg12 g _ _ _ (offO_A 6 k) _ _ _ _ _ (by omega)).trans ?_
  refine (rdO_miss arg12 g _ _ _ (offO_A 5 k) _ _ _ _ _ (by omega)).trans ?_
  refine (rdO_miss arg12 g _ _ _ (offO_A 4 k) _ _ _ _ _ (by omega)).trans ?_
  refine (rdO_miss arg12 g _ _ _ (offO_A 3 k) _ _ _ _ _ (by omega)).trans ?_
  refine (rdO_miss arg12 g _ _ _ (offO_A 2 k) _ _ _ _ _ (by omega)).trans ?_
  refine (rdO_miss arg12 g _ _ _ (offO_A 1 k) _ _ _ _ _ (by omega)).trans ?_
  refine (rdO_miss arg12 g _ _ _ (offO_A 0 k) _ _ _ _ _ (by omega)).trans ?_
  rfl

end Cert.KernelIdeal.Hand

end
-- ==== Proof.GdnSpec.lean ====
module

public import Idealize.ShloMosaic.Lib.Pointwise

@[expose] public section

/-! The gated delta rule over one head, chunk by chunk, on the argument arrays. -/

set_option maxRecDepth 16384

noncomputable section

namespace Cert.Gdn

open Idealize.ShloMosaic

/-- The state after a chunk: decayed, plus the keys times the corrected values. -/
def gStep (W : Fin 64 → Fin 128 → EReal) (U : Fin 64 → Fin 128 → EReal) (D : Fin 128 → Fin 64 → EReal) (E : Fin 128 → EReal)
    (T : Fin 128 → Fin 128 → EReal) (i j : Fin 128) : EReal :=
  T i j * E j + ∑ c : Fin 64, D i c * (U c j - ∑ k : Fin 128, W c k * T k j)

/-- A chunk's outputs: the queries through the state, plus the scores times the corrected values. -/
def gOut (Q W : Fin 64 → Fin 128 → EReal) (U : Fin 64 → Fin 128 → EReal) (X : Fin 64 → Fin 64 → EReal)
    (T : Fin 128 → Fin 128 → EReal) (c : Fin 64) (j : Fin 128) : EReal :=
  (∑ k : Fin 128, Q c k * T k j) + ∑ c' : Fin 64, X c c' * (U c' j - ∑ k : Fin 128, W c' k * T k j)

abbrev Seq : Shape := ⟨4, ![16, 8, 2048, 128]⟩
abbrev Keys : Shape := ⟨5, ![16, 8, 16, 128, 128]⟩
abbrev Decay : Shape := ⟨5, ![16, 8, 32, 8, 128]⟩

variable (a0 a1 a2 a3 : Seq.Idx → EReal) (a4 : Keys.Idx → EReal) (a5 : Decay.Idx → EReal) (b : Fin 16) (h : Fin 8)

/-- Rows of chunk `n`. -/
def cR (a : Seq.Idx → EReal) (n : Fin 32) (c : Fin 64) (k : Fin 128) : EReal := a (ix4 b h ⟨64 * n.val + c.val, by omega⟩ k)
/-- The diagonal block of the scores of chunk `n`. -/
def cX (n : Fin 32) (c c' : Fin 64) : EReal := a3 (ix4 b h ⟨64 * n.val + c.val, by omega⟩ ⟨64 * (n.val % 2) + c'.val, by omega⟩)
/-- The half of the transposed keys that is chunk `n`'s. -/
def cD (n : Fin 32) (i : Fin 128) (c : Fin 64) : EReal := a4 (ix5 b h ⟨n.val / 2, by omega⟩ i ⟨64 * (n.val % 2) + c.val, by omega⟩)
/-- The decay of chunk `n`. -/
def cE (n : Fin 32) (j : Fin 128) : EReal := a5 (ix5 b h n 0 j)

/-- The state before chunk `n`. -/
def ST : ℕ → Fin 128 → Fin 128 → EReal
  | 0 => fun _ _ => 0
  | n + 1 => if hn : n < 32 then gStep (cR b h a0 ⟨n, hn⟩) (cR b h a2 ⟨n, hn⟩) (cD a4 b h ⟨n, hn⟩) (cE a5 b h ⟨n, hn⟩) (ST n) else ST n

theorem ST_zero : ST a0 a2 a4 a5 b h 0 = fun _ _ => 0 := rfl

theorem ST_succ (n : ℕ) (hn : n < 32) : ST a0 a2 a4 a5 b h (n + 1)
    = gStep (cR b h a0 ⟨n, hn⟩) (cR b h a2 ⟨n, hn⟩) (cD a4 b h ⟨n, hn⟩) (cE a5 b h ⟨n, hn⟩) (ST a0 a2 a4 a5 b h n) := dif_pos hn

/-- The outputs of chunk `n`. -/
def OUT (n : Fin 32) : Fin 64 → Fin 128 → EReal :=
  gOut (cR b h a1 n) (cR b h a0 n) (cR b h a2 n) (cX a3 b h n) (ST a0 a2 a4 a5 b h n.val)

/-- The gated norm of a row of raw outputs: normalized, weighted, times the gate's swish. -/
def GATE (o : Fin 128 → EReal) (nw z : EReal) (j : Fin 128) : EReal :=
  o j * Ideal.rsqrt (Ideal.div (∑ k : Fin 128, o k * o k) (Ideal.ofBits FTy.f32 1124073472#32) + Ideal.ofBits FTy.f32 897988541#32) * nw
    * (z * Ideal.logistic z)

abbrev Wide : Shape := ⟨3, ![16, 2048, 5120]⟩

/-- The result: the gated norm of every head's outputs. -/
def RES (a6 : Wide.Idx → EReal) (a7 : Fin 128 → EReal) (r : Fin 2048) (y : Fin 1024) : EReal :=
  GATE (fun k => OUT a0 a1 a2 a3 a4 a5 b ⟨y.val / 128, by omega⟩ ⟨r.val / 64, by omega⟩ ⟨r.val % 64, by omega⟩ k)
    (a7 ⟨y.val % 128, by omega⟩) (a6 (ix3 b r ⟨y.val, by omega⟩)) ⟨y.val % 128, by omega⟩

end Cert.Gdn

end
-- ==== Proof.GdnLoop.lean ====
module

public import proofs.«01_k».proof.Proof.GdnTrip
public import proofs.«01_k».proof.Proof.GdnSpec

@[expose] public section

/-! The scan's loop over a block of rows: the state and the outputs it leaves. -/

set_option maxRecDepth 16384

noncomputable section

namespace Cert.KernelIdeal.Hand

open Idealize.ShloMosaic Idealize.ShloMosaic.TcCoe Idealize.ShloMosaic.Tactic
open Idealize.SL Idealize.SL.RA Idealize.SL.BI
open Cert.KernelIdeal Cert.KernelIdeal.Gen

section Trips
variable {F : FTy → Type} [FloatOps F]
variable (𝒱 : Variants) (c : Dev nD) (bd : Option 𝒱.V) (i : grid0.Coords) (arg2 : Memref sig .tc .vmem S1x8x512x128 .bf16) (harg2 : arg2.IsWhole) (arg3 : Memref sig .tc .vmem S1x8x512x128 .bf16) (harg3 : arg3.IsWhole) (arg4 : Memref sig .tc .vmem S1x8x512x128 .f32) (harg4 : arg4.IsWhole) (arg5 : Memref sig .tc .vmem S1x8x512x128 .bf16) (harg5 : arg5.IsWhole) (arg6 : Memref sig .tc .vmem S1x8x4x128x128 .bf16) (harg6 : arg6.IsWhole) (arg7 : Memref sig .tc .vmem S1x8x8x8x128 .f32) (harg7 : arg7.IsWhole) (arg8 : Memref sig .tc .vmem S1x512x1024 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S8x128x128 .f32) (harg11 : arg11.IsWhole) (arg12 : Memref sig .tc .vmem S512x1024 .f32) (harg12 : arg12.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty)
  (f : BufTy.Contents (Elt F) arg11.view.ty) (g : BufTy.Contents (Elt F) arg12.view.ty)

/-- A head's state before trip `n`. -/
def SS (h : Fin 8) (S : Vec F S1x128x128 .f32) : ℕ → Vec F S1x128x128 .f32
  | 0 => S
  | n + 1 => if hn : n < k0_t1_loop.trips then endS arg2 arg3 arg4 arg5 arg6 arg7 X_arg2 X_arg3 X_arg4 X_arg5 X_arg6 X_arg7 ⟨n, hn⟩ h (SS h S n) else SS h S n

theorem SS_succ (h : Fin 8) (S : Vec F S1x128x128 .f32) (k : Fin k0_t1_loop.trips) :
    SS arg2 arg3 arg4 arg5 arg6 arg7 X_arg2 X_arg3 X_arg4 X_arg5 X_arg6 X_arg7 h S (k.val + 1) = endS arg2 arg3 arg4 arg5 arg6 arg7 X_arg2 X_arg3 X_arg4 X_arg5 X_arg6 X_arg7 k h (SS arg2 arg3 arg4 arg5 arg6 arg7 X_arg2 X_arg3 X_arg4 X_arg5 X_arg6 X_arg7 h S k.val) := dif_pos k.isLt

theorem loop_state (h : Fin 8) : ∀ n : ℕ, n ≤ k0_t1_loop.trips → ldS arg11 (arg11.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 f g n).1) h = SS arg2 arg3 arg4 arg5 arg6 arg7 X_arg2 X_arg3 X_arg4 X_arg5 X_arg6 X_arg7 h (ldS arg11 f h) n
  | 0, _ => rfl
  | n + 1, hn => by
    have hk : n < k0_t1_loop.trips := hn
    rw [show n + 1 = (⟨n, hk⟩ : Fin k0_t1_loop.trips).val + 1 from rfl, pb_k0_t1_succ, SS_succ]
    dsimp only
    rw [View.writes_append, trip_ldS, loop_state h n (Nat.le_of_lt hk)]

theorem loop_outA (h : Fin 8) (k : Fin k0_t1_loop.trips) (y0 : Fin 512) (y1 : Fin 1024) (x0 : Fin 64) (x1 : Fin 128)
    (h0 : y0.val = 128 * k.val + x0.val) (h1 : y1.val = 128 * h.val + x1.val) : ∀ n : ℕ, k.val < n → n ≤ k0_t1_loop.trips →
    arg12.view.read (Elt F) (arg12.view.writes (Elt F) g (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 f g n).2) (ix2 y0 y1 : S512x1024.Idx)
      = fstO arg2 arg3 arg4 arg5 arg6 X_arg2 X_arg3 X_arg4 X_arg5 X_arg6 k h (SS arg2 arg3 arg4 arg5 arg6 arg7 X_arg2 X_arg3 X_arg4 X_arg5 X_arg6 X_arg7 h (ldS arg11 f h) k.val) (ix2 x0 x1 : S64x128.Idx)
  | 0, hlt, _ => absurd hlt (Nat.not_lt_zero _)
  | n + 1, hlt, hn => by
    have hk : n < k0_t1_loop.trips := hn
    rw [show n + 1 = (⟨n, hk⟩ : Fin k0_t1_loop.trips).val + 1 from rfl, pb_k0_t1_succ]
    dsimp only
    rw [View.writes_append]
    rcases Nat.lt_or_ge k.val n with hlt' | hge
    · rw [trip_rdN (h0 := by show y0.val < 128 * n; omega)]
      exact loop_outA h k y0 y1 x0 x1 h0 h1 n hlt' (Nat.le_of_lt hk)
    · obtain rfl : k = ⟨n, hk⟩ := Fin.ext (by show k.val = n; omega)
      rw [trip_rdA (h := h) (x0 := x0) (x1 := x1) (h0 := h0) (h1 := h1), loop_state 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 f g h n (Nat.le_of_lt hk)]

theorem loop_outB (h : Fin 8) (k : Fin k0_t1_loop.trips) (y0 : Fin 512) (y1 : Fin 1024) (x0 : Fin 64) (x1 : Fin 128)
    (h0 : y0.val = 128 * k.val + 64 + x0.val) (h1 : y1.val = 128 * h.val + x1.val) : ∀ n : ℕ, k.val < n → n ≤ k0_t1_loop.trips →
    arg12.view.read (Elt F) (arg12.view.writes (Elt F) g (pb_k0_t1 (F := F) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 f g n).2) (ix2 y0 y1 : S512x1024.Idx)
      = sndO arg2 arg3 arg4 arg5 arg6 arg7 X_arg2 X_arg3 X_arg4 X_arg5 X_arg6 X_arg7 k h (SS arg2 arg3 arg4 arg5 arg6 arg7 X_arg2 X_arg3 X_arg4 X_arg5 X_arg6 X_arg7 h (ldS arg11 f h) k.val) (ix2 x0 x1 : S64x128.Idx)
  | 0, hlt, _ => absurd hlt (Nat.not_lt_zero _)
  | n + 1, hlt, hn => by
    have hk : n < k0_t1_loop.trips := hn
    rw [show n + 1 = (⟨n, hk⟩ : Fin k0_t1_loop.trips).val + 1 from rfl, pb_k0_t1_succ]
    dsimp only
    rw [View.writes_append]
    rcases Nat.lt_or_ge k.val n with hlt' | hge
    · rw [trip_rdN (h0 := by show y0.val < 128 * n; omega)]
      exact loop_outB h k y0 y1 x0 x1 h0 h1 n hlt' (Nat.le_of_lt hk)
    · obtain rfl : k = ⟨n, hk⟩ := Fin.ext (by show k.val = n; omega)
      rw [trip_rdB (h := h) (x0 := x0) (x1 := x1) (h0 := h0) (h1 := h1), loop_state 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 f g h n (Nat.le_of_lt hk)]

end Trips

/-! ## The block's rows as the scan's chunks -/

section Block
variable (arg2 : Memref sig .tc .vmem S1x8x512x128 .bf16) (arg3 : Memref sig .tc .vmem S1x8x512x128 .bf16) (arg4 : Memref sig .tc .vmem S1x8x512x128 .f32) (arg5 : Memref sig .tc .vmem S1x8x512x128 .bf16) (arg6 : Memref sig .tc .vmem S1x8x4x128x128 .bf16) (arg7 : Memref sig .tc .vmem S1x8x8x8x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty)

theorem ldVA_at {e : EltTy} (v : Memref sig .tc .vmem S1x8x512x128 e) (X : BufTy.Contents (Elt Ideal) v.view.ty) (h : Fin 8) (k : Fin k0_t1_loop.trips)
    (c : Fin 64) (j : Fin 128) : ldVA v X h k (ix4 0 0 c j) = v.view.read (Elt Ideal) X (ix4 0 h ⟨128 * k.val + c.val, by have := trips_lt k; omega⟩ j) := by
  refine congrArg (v.view.read (Elt Ideal) X) (funext fun a => Fin.ext ?_)
  fin_cases a
  · rfl
  · show h.val + 1 * 0 = h.val; omega
  · show (Scalar.indexCast (Scalar.addi (Scalar.muli (Scf.iv 0#32 1#32 k) 128#32) 0#32)).toNat + 1 * c.val = 128 * k.val + c.val
    rw [rowA]; omega
  · show 0 + 1 * j.val = j.val; omega

theorem ldVB_at {e : EltTy} (v : Memref sig .tc .vmem S1x8x512x128 e) (X : BufTy.Contents (Elt Ideal) v.view.ty) (h : Fin 8) (k : Fin k0_t1_loop.trips)
    (c : Fin 64) (j : Fin 128) : ldVB v X h k (ix4 0 0 c j) = v.view.read (Elt Ideal) X (ix4 0 h ⟨128 * k.val + 64 + c.val, by have := trips_lt k; omega⟩ j) := by
  refine congrArg (v.view.read (Elt Ideal) X) (funext fun a => Fin.ext ?_)
  fin_cases a
  · rfl
  · show h.val + 1 * 0 = h.val; omega
  · show (Scalar.indexCast (Scalar.addi (Scalar.muli (Scf.iv 0#32 1#32 k) 128#32) 64#32)).toNat + 1 * c.val = 128 * k.val + 64 + c.val
    rw [rowB]; omega
  · show 0 + 1 * j.val = j.val; omega

theorem ldK_at (v : Memref sig .tc .vmem S1x8x4x128x128 .bf16) (X : BufTy.Contents (Elt Ideal) v.view.ty) (h : Fin 8) (k : Fin k0_t1_loop.trips)
    (i c : Fin 128) : ldK v X h k (ix5 0 0 0 i c) = v.view.read (Elt Ideal) X (ix5 0 h ⟨k.val, trips_lt k⟩ i c) := by
  refine congrArg (v.view.read (Elt Ideal) X) (funext fun a => Fin.ext ?_)
  fin_cases a
  · rfl
  · show h.val + 1 * 0 = h.val; omega
  · show (Scalar.indexCast (Scf.iv 0#32 1#32 k)).toNat + 1 * 0 = k.val
    rw [pairK]; omega
  · show 0 + 1 * i.val = i.val; omega
  · show 0 + 1 * c.val = c.val; omega

theorem ldEA_at (v : Memref sig .tc .vmem S1x8x8x8x128 .f32) (X : BufTy.Contents (Elt Ideal) v.view.ty) (h : Fin 8) (k : Fin k0_t1_loop.trips)
    (j : Fin 128) : ldEA v X h k (ix5 0 0 0 0 j) = v.view.read (Elt Ideal) X (ix5 0 h ⟨2 * k.val, by have := trips_lt k; omega⟩ 0 j) := by
  refine congrArg (v.view.read (Elt Ideal) X) (funext fun a => Fin.ext ?_)
  fin_cases a
  · rfl
  · show h.val + 1 * 0 = h.val; omega
  · show (Scalar.indexCast (Scalar.addi (Scalar.muli 2#32 (Scf.iv 0#32 1#32 k)) 0#32)).toNat + 1 * 0 = 2 * k.val
    rw [chunkA]; omega
  · rfl
  · show 0 + 1 * j.val = j.val; omega

theorem ldEB_at (v : Memref sig .tc .vmem S1x8x8x8x128 .f32) (X : BufTy.Contents (Elt Ideal) v.view.ty) (h : Fin 8) (k : Fin k0_t1_loop.trips)
    (j : Fin 128) : ldEB v X h k (ix5 0 0 0 0 j) = v.view.read (Elt Ideal) X (ix5 0 h ⟨2 * k.val + 1, by have := trips_lt k; omega⟩ 0 j) := by
  refine congrArg (v.view.read (Elt Ideal) X) (funext fun a => Fin.ext ?_)
  fin_cases a
  · rfl
  · show h.val + 1 * 0 = h.val; omega
  · show (Scalar.indexCast (Scalar.addi (Scalar.muli 2#32 (Scf.iv 0#32 1#32 k)) 1#32)).toNat + 1 * 0 = 2 * k.val + 1
    rw [chunkB]
  · rfl
  · show 0 + 1 * j.val = j.val; omega

open Cert.Gdn

variable (a0 a1 a2 a3 : Seq.Idx → EReal) (a4 : Keys.Idx → EReal) (a5 : Decay.Idx → EReal) (b : Fin 16) (h : Fin 8) (jb : Fin 4)

/-- What the block of grid point `(b, jb)` holds of the argument arrays. -/
structure Holds : Prop where
  e2 : ∀ (h : Fin 8) (r : Fin 512) (x : Fin 128), arg2.view.read (Elt Ideal) X_arg2 (ix4 0 h r x) = a0 (ix4 b h ⟨512 * jb.val + r.val, by omega⟩ x)
  e3 : ∀ (h : Fin 8) (r : Fin 512) (x : Fin 128), arg3.view.read (Elt Ideal) X_arg3 (ix4 0 h r x) = a1 (ix4 b h ⟨512 * jb.val + r.val, by omega⟩ x)
  e4 : ∀ (h : Fin 8) (r : Fin 512) (x : Fin 128), arg4.view.read (Elt Ideal) X_arg4 (ix4 0 h r x) = a2 (ix4 b h ⟨512 * jb.val + r.val, by omega⟩ x)
  e5 : ∀ (h : Fin 8) (r : Fin 512) (x : Fin 128), arg5.view.read (Elt Ideal) X_arg5 (ix4 0 h r x) = a3 (ix4 b h ⟨512 * jb.val + r.val, by omega⟩ x)
  e6 : ∀ (h : Fin 8) (p : Fin 4) (i x : Fin 128), arg6.view.read (Elt Ideal) X_arg6 (ix5 0 h p i x) = a4 (ix5 b h ⟨4 * jb.val + p.val, by omega⟩ i x)
  e7 : ∀ (h : Fin 8) (p : Fin 8) (s : Fin 8) (x : Fin 128), arg7.view.read (Elt Ideal) X_arg7 (ix5 0 h p s x) = a5 (ix5 b h ⟨8 * jb.val + p.val, by omega⟩ s x)

theorem trips_eq : k0_t1_loop.trips = 4 := by decide
theorem eqA (x y z : ℕ) : 512 * x + (128 * y + z) = 64 * (8 * x + 2 * y) + z := by omega
theorem eqB (x y z : ℕ) : 512 * x + (128 * y + 64 + z) = 64 * (8 * x + 2 * y + 1) + z := by omega
theorem eqE (x y : ℕ) : 8 * x + (2 * y + 1) = 8 * x + 2 * y + 1 := by omega
theorem eqK (x y : ℕ) : (8 * x + 2 * y) / 2 = 4 * x + y := by omega
theorem eqK' (x y : ℕ) : (8 * x + 2 * y + 1) / 2 = 4 * x + y := by omega
theorem eqH (x y z : ℕ) : 64 * ((8 * x + 2 * y) % 2) + z = z := by omega
theorem eqH' (x y z : ℕ) : 64 * ((8 * x + 2 * y + 1) % 2) + z = 64 + z := by omega

variable {arg2 arg3 arg4 arg5 arg6 arg7 X_arg2 X_arg3 X_arg4 X_arg5 X_arg6 X_arg7} {a0 a1 a2 a3 a4 a5 b jb}
variable (H : Holds arg2 arg3 arg4 arg5 arg6 arg7 X_arg2 X_arg3 X_arg4 X_arg5 X_arg6 X_arg7 a0 a1 a2 a3 a4 a5 b jb)
include H

/-- The state after a pair's first chunk. -/
theorem midS_at (k : Fin k0_t1_loop.trips) (S : Vec Ideal S1x128x128 .f32) (hS : ∀ i j : Fin 128, S (ix3 0 i j) = ST a0 a2 a4 a5 b h (8 * jb.val + 2 * k.val) i j)
    (i j : Fin 128) : midS arg2 arg3 arg4 arg5 arg6 arg7 X_arg2 X_arg3 X_arg4 X_arg5 X_arg6 X_arg7 k h S (ix3 0 i j) = ST a0 a2 a4 a5 b h (8 * jb.val + 2 * k.val + 1) i j := by
  have hk := trips_lt k
  rw [ST_succ _ _ _ _ _ _ _ (by omega)]
  unfold midS
  rw [stA_at]
  unfold gStep vn cR cD cE
  simp only [hS, ldVA_at, ldK_at, ldEA_at, H.e2, H.e4, H.e6, H.e7]
  simp only [eqA, eqK, eqH]

/-- The state after a pair. -/
theorem endS_at (k : Fin k0_t1_loop.trips) (S : Vec Ideal S1x128x128 .f32) (hS : ∀ i j : Fin 128, S (ix3 0 i j) = ST a0 a2 a4 a5 b h (8 * jb.val + 2 * k.val) i j)
    (i j : Fin 128) : endS arg2 arg3 arg4 arg5 arg6 arg7 X_arg2 X_arg3 X_arg4 X_arg5 X_arg6 X_arg7 k h S (ix3 0 i j) = ST a0 a2 a4 a5 b h (8 * jb.val + 2 * (k.val + 1)) i j := by
  have hk := trips_lt k
  rw [show 8 * jb.val + 2 * (k.val + 1) = 8 * jb.val + 2 * k.val + 1 + 1 by omega, ST_succ _ _ _ _ _ _ _ (by omega)]
  unfold endS
  rw [stB_at]
  unfold gStep vn cR cD cE
  have hM := midS_at (h := h) H k S hS
  simp only [hM, ldVB_at, ldK_at, ldEB_at, H.e2, H.e4, H.e6, H.e7]
  simp only [eqB, eqE, eqK', eqH']

/-- The first chunk's outputs. -/
theorem fstO_at (k : Fin k0_t1_loop.trips) (S : Vec Ideal S1x128x128 .f32) (hS : ∀ i j : Fin 128, S (ix3 0 i j) = ST a0 a2 a4 a5 b h (8 * jb.val + 2 * k.val) i j)
    (c : Fin 64) (j : Fin 128) : fstO arg2 arg3 arg4 arg5 arg6 X_arg2 X_arg3 X_arg4 X_arg5 X_arg6 k h S (ix2 c j)
      = OUT a0 a1 a2 a3 a4 a5 b h ⟨8 * jb.val + 2 * k.val, by have := trips_lt k; omega⟩ c j := by
  unfold fstO
  rw [outA_at]
  unfold OUT gOut vn cR cX
  simp only [hS, ldVA_at, H.e2, H.e3, H.e4, H.e5]
  simp only [eqA, eqH]

/-- The second chunk's outputs. -/
theorem sndO_at (k : Fin k0_t1_loop.trips) (S : Vec Ideal S1x128x128 .f32) (hS : ∀ i j : Fin 128, S (ix3 0 i j) = ST a0 a2 a4 a5 b h (8 * jb.val + 2 * k.val) i j)
    (c : Fin 64) (j : Fin 128) : sndO arg2 arg3 arg4 arg5 arg6 arg7 X_arg2 X_arg3 X_arg4 X_arg5 X_arg6 X_arg7 k h S (ix2 c j)
      = OUT a0 a1 a2 a3 a4 a5 b h ⟨8 * jb.val + 2 * k.val + 1, by have := trips_lt k; omega⟩ c j := by
  unfold sndO
  rw [outB_at]
  unfold OUT gOut vn cR cX
  have hM := midS_at (h := h) H k S hS
  simp only [hM, ldVB_at, H.e2, H.e3, H.e4, H.e5]
  simp only [eqB, eqH']

/-- A head's state before trip `n`. -/
theorem SS_at (S : Vec Ideal S1x128x128 .f32) (hS : ∀ i j : Fin 128, S (ix3 0 i j) = ST a0 a2 a4 a5 b h (8 * jb.val) i j) :
    ∀ n : ℕ, n ≤ k0_t1_loop.trips → ∀ i j : Fin 128, SS arg2 arg3 arg4 arg5 arg6 arg7 X_arg2 X_arg3 X_arg4 X_arg5 X_arg6 X_arg7 h S n (ix3 0 i j) = ST a0 a2 a4 a5 b h (8 * jb.val + 2 * n) i j
  | 0, _ => hS
  | n + 1, hn => by
    have hk : n < k0_t1_loop.trips := hn
    intro i j
    rw [show SS arg2 arg3 arg4 arg5 arg6 arg7 X_arg2 X_arg3 X_arg4 X_arg5 X_arg6 X_arg7 h S (n + 1) = _ from SS_succ arg2 arg3 arg4 arg5 arg6 arg7 X_arg2 X_arg3 X_arg4 X_arg5 X_arg6 X_arg7 h S ⟨n, hk⟩]
    exact endS_at h H ⟨n, hk⟩ _ (fun i j => SS_at S hS n (Nat.le_of_lt hk) i j) i j

variable (𝒱 : Variants) (c : Dev nD) (bd : Option 𝒱.V) (i : grid0.Coords) (harg2 : arg2.IsWhole) (harg3 : arg3.IsWhole) (harg4 : arg4.IsWhole) (harg5 : arg5.IsWhole) (harg6 : arg6.IsWhole) (harg7 : arg7.IsWhole) (arg8 : Memref sig .tc .vmem S1x512x1024 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S8x128x128 .f32) (harg11 : arg11.IsWhole) (arg12 : Memref sig .tc .vmem S512x1024 .f32) (harg12 : arg12.IsWhole)
  (f : BufTy.Contents (Elt Ideal) arg11.view.ty) (g : BufTy.Contents (Elt Ideal) arg12.view.ty)

/-- The state the loop leaves. -/
theorem block_state (hf : ∀ i j : Fin 128, ldS arg11 f h (ix3 0 i j) = ST a0 a2 a4 a5 b h (8 * jb.val) i j) (i' j : Fin 128) :
    ldS arg11 (arg11.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 f g k0_t1_loop.trips).1) h (ix3 0 i' j) = ST a0 a2 a4 a5 b h (8 * (jb.val + 1)) i' j := by
  rw [loop_state 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 f g h _ (le_refl _), SS_at h H _ hf _ (le_refl _), trips_eq]
  rfl

/-- The outputs the loop leaves. -/
theorem block_out (hf : ∀ h : Fin 8, ∀ i j : Fin 128, ldS arg11 f h (ix3 0 i j) = ST a0 a2 a4 a5 b h (8 * jb.val) i j)
    (y0 : Fin 512) (y1 : Fin 1024) :
    arg12.view.read (Elt Ideal) (arg12.view.writes (Elt Ideal) g (pb_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 f g k0_t1_loop.trips).2) (ix2 y0 y1 : S512x1024.Idx)
      = OUT a0 a1 a2 a3 a4 a5 b ⟨y1.val / 128, by omega⟩ ⟨8 * jb.val + y0.val / 64, by omega⟩ ⟨y0.val % 64, by omega⟩ ⟨y1.val % 128, by omega⟩ := by
  have hk : y0.val / 128 < k0_t1_loop.trips := by rw [trips_eq]; omega
  rcases Nat.lt_or_ge (y0.val % 128) 64 with hlt | hge
  · rw [loop_outA 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 f g ⟨y1.val / 128, by omega⟩ ⟨y0.val / 128, hk⟩ y0 y1 ⟨y0.val % 64, by omega⟩ ⟨y1.val % 128, by omega⟩
      (by show y0.val = 128 * (y0.val / 128) + y0.val % 64; omega) (by show y1.val = 128 * (y1.val / 128) + y1.val % 128; omega) k0_t1_loop.trips hk (le_refl _)]
    rw [fstO_at ⟨y1.val / 128, by omega⟩ H ⟨y0.val / 128, hk⟩ _ (SS_at _ H _ (hf _) _ (Nat.le_of_lt hk))]
    refine congrArg (fun n => OUT a0 a1 a2 a3 a4 a5 b ⟨y1.val / 128, by omega⟩ n ⟨y0.val % 64, by omega⟩ ⟨y1.val % 128, by omega⟩) (Fin.ext ?_)
    show 8 * jb.val + 2 * (y0.val / 128) = 8 * jb.val + y0.val / 64
    omega
  · rw [loop_outB 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 f g ⟨y1.val / 128, by omega⟩ ⟨y0.val / 128, hk⟩ y0 y1 ⟨y0.val % 64, by omega⟩ ⟨y1.val % 128, by omega⟩
      (by show y0.val = 128 * (y0.val / 128) + 64 + y0.val % 64; omega) (by show y1.val = 128 * (y1.val / 128) + y1.val % 128; omega) k0_t1_loop.trips hk (le_refl _)]
    rw [sndO_at ⟨y1.val / 128, by omega⟩ H ⟨y0.val / 128, hk⟩ _ (SS_at _ H _ (hf _) _ (Nat.le_of_lt hk))]
    refine congrArg (fun n => OUT a0 a1 a2 a3 a4 a5 b ⟨y1.val / 128, by omega⟩ n ⟨y0.val % 64, by omega⟩ ⟨y1.val % 128, by omega⟩) (Fin.ext ?_)
    show 8 * jb.val + 2 * (y0.val / 128) + 1 = 8 * jb.val + y0.val / 64
    omega

end Block

end Cert.KernelIdeal.Hand

end
-- ==== Proof.GdnGate.lean ====
module

public import proofs.«01_k».proof.Proof.GdnLoop

@[expose] public section

/-! The gated norm a grid point applies to its block of raw outputs, and what the point leaves in each buffer. -/

set_option maxRecDepth 16384

noncomputable section

namespace Cert.KernelIdeal.Hand

open Idealize.ShloMosaic Idealize.ShloMosaic.TcCoe Idealize.ShloMosaic.Tactic
open Cert.KernelIdeal Cert.KernelIdeal.Gen

section Loads
variable {F : FTy → Type} [FloatOps F]

theorem inbG (h : Fin 8) : ∀ a, (![0, 128 * h.val] : Fin 2 → ℕ) a + S512x128.size a ≤ S512x1024.size a := by
  revert h; decide
theorem inbZ (h : Fin 8) : ∀ a, (![0, 0, 128 * h.val] : Fin 3 → ℕ) a + S1x512x128.size a ≤ S1x512x1024.size a := by
  revert h; decide

/-- A head's columns of the raw outputs. -/
def ldG (v : Memref sig .tc .vmem S512x1024 .f32) (X : BufTy.Contents (Elt F) v.view.ty) (h : Fin 8) : Vec F S512x128 .f32 :=
  View.readAt (Elt F) v.view (Rect.unit (s := S512x1024) ![0, 128 * h.val] S512x128.size (inbG h)).toLoadRect X
/-- A head's columns of the gates. -/
def ldZ (v : Memref sig .tc .vmem S1x512x1024 .f32) (X : BufTy.Contents (Elt F) v.view.ty) (h : Fin 8) : Vec F S1x512x128 .f32 :=
  View.readAt (Elt F) v.view (Rect.unit (s := S1x512x1024) ![0, 0, 128 * h.val] S1x512x128.size (inbZ h)).toLoadRect X
/-- The norm's weights. -/
def ldN (v : Memref sig .tc .vmem S1x128 .f32) (X : BufTy.Contents (Elt F) v.view.ty) : Vec F S1x128 .f32 :=
  View.readAt (Elt F) v.view (Rect.unit (s := S1x128) ![0, 0] S1x128.size inb_S1x128_S1x128_0_0).toLoadRect X

/-- The piece of the output head `h` writes. -/
def gated (h : Fin 8) (G : Vec F S512x128 .f32) (N : Vec F S1x128 .f32) (Z : Vec F S1x512x128 .f32) : View.Piece (Elt F) S1x512x1024 .bf16 :=
  ⟨Rect.unit (s := S1x512x1024) ![0, 0, 128 * h.val] S1x512x128.size (inbZ h), k0_pay121 G N Z⟩

theorem rdG_miss (v : Memref sig .tc .vmem S1x512x1024 .bf16) (X : BufTy.Contents (Elt F) v.view.ty) (h : Fin 8)
    (G : Vec F S512x128 .f32) (N : Vec F S1x128 .f32) (Z : Vec F S1x512x128 .f32) (L : List (View.Piece (Elt F) S1x512x1024 .bf16))
    (y0 : Fin 512) (y1 : Fin 1024) (hne : y1.val / 128 ≠ h.val) :
    v.view.read (Elt F) (v.view.writes (Elt F) X (gated h G N Z :: L)) (ix3 0 y0 y1 : S1x512x1024.Idx)
      = v.view.read (Elt F) (v.view.writes (Elt F) X L) (ix3 0 y0 y1 : S1x512x1024.Idx) := by
  refine View.read_writes_cons_unit_of_not_mem v.view X (inbZ h) _ L (ix3 0 y0 y1 : S1x512x1024.Idx) rfl 2 ?_
  show y1.val < 128 * h.val ∨ 128 * h.val + 128 ≤ y1.val
  omega

theorem rdG_hit (v : Memref sig .tc .vmem S1x512x1024 .bf16) (X : BufTy.Contents (Elt F) v.view.ty) (h : Fin 8)
    (G : Vec F S512x128 .f32) (N : Vec F S1x128 .f32) (Z : Vec F S1x512x128 .f32) (L : List (View.Piece (Elt F) S1x512x1024 .bf16))
    (y0 : Fin 512) (y1 : Fin 1024) (he : y1.val / 128 = h.val) :
    v.view.read (Elt F) (v.view.writes (Elt F) X (gated h G N Z :: L)) (ix3 0 y0 y1 : S1x512x1024.Idx)
      = k0_pay121 G N Z (ix3 0 y0 ⟨y1.val % 128, by omega⟩) := by
  refine View.read_writes_cons_unit_of_mem v.view X (inbZ h) _ L (ix3 0 y0 y1 : S1x512x1024.Idx)
    (ix3 0 y0 ⟨y1.val % 128, by omega⟩ : S1x512x128.Idx) rfl fun a => ?_
  fin_cases a
  · rfl
  · exact (Nat.zero_add _).symm
  · show y1.val = 128 * h.val + y1.val % 128
    omega

/-- The eight heads' pieces, last first. -/
def pieces (G : Fin 8 → Vec F S512x128 .f32) (N : Vec F S1x128 .f32) (Z : Fin 8 → Vec F S1x512x128 .f32) : List (View.Piece (Elt F) S1x512x1024 .bf16) :=
  [gated 7 (G 7) N (Z 7), gated 6 (G 6) N (Z 6), gated 5 (G 5) N (Z 5), gated 4 (G 4) N (Z 4), gated 3 (G 3) N (Z 3), gated 2 (G 2) N (Z 2), gated 1 (G 1) N (Z 1), gated 0 (G 0) N (Z 0)]

/-- The output read at a column is its head's piece. -/
theorem pieces_at (v : Memref sig .tc .vmem S1x512x1024 .bf16) (X : BufTy.Contents (Elt F) v.view.ty)
    (G : Fin 8 → Vec F S512x128 .f32) (N : Vec F S1x128 .f32) (Z : Fin 8 → Vec F S1x512x128 .f32) (y0 : Fin 512) (y1 : Fin 1024) (h : Fin 8)
    (he : y1.val / 128 = h.val) :
    v.view.read (Elt F) (v.view.writes (Elt F) X (pieces G N Z)) (ix3 0 y0 y1 : S1x512x1024.Idx)
      = k0_pay121 (G h) N (Z h) (ix3 0 y0 ⟨y1.val % 128, by omega⟩) := by
  unfold pieces
  obtain rfl | rfl | rfl | rfl | rfl | rfl | rfl | rfl : h = 0 ∨ h = 1 ∨ h = 2 ∨ h = 3 ∨ h = 4 ∨ h = 5 ∨ h = 6 ∨ h = 7 := by omega
  · refine (rdG_miss v X 7 _ _ _ _ y0 y1 (by rw [he]; decide)).trans ?_
    refine (rdG_miss v X 6 _ _ _ _ y0 y1 (by rw [he]; decide)).trans ?_
    refine (rdG_miss v X 5 _ _ _ _ y0 y1 (by rw [he]; decide)).trans ?_
    refine (rdG_miss v X 4 _ _ _ _ y0 y1 (by rw [he]; decide)).trans ?_
    refine (rdG_miss v X 3 _ _ _ _ y0 y1 (by rw [he]; decide)).trans ?_
    refine (rdG_miss v X 2 _ _ _ _ y0 y1 (by rw [he]; decide)).trans ?_
    refine (rdG_miss v X 1 _ _ _ _ y0 y1 (by rw [he]; decide)).trans ?_
    exact rdG_hit v X 0 _ _ _ _ y0 y1 he
  · refine (rdG_miss v X 7 _ _ _ _ y0 y1 (by rw [he]; decide)).trans ?_
    refine (rdG_miss v X 6 _ _ _ _ y0 y1 (by rw [he]; decide)).trans ?_
    refine (rdG_miss v X 5 _ _ _ _ y0 y1 (by rw [he]; decide)).trans ?_
    refine (rdG_miss v X 4 _ _ _ _ y0 y1 (by rw [he]; decide)).trans ?_
    refine (rdG_miss v X 3 _ _ _ _ y0 y1 (by rw [he]; decide)).trans ?_
    refine (rdG_miss v X 2 _ _ _ _ y0 y1 (by rw [he]; decide)).trans ?_
    exact rdG_hit v X 1 _ _ _ _ y0 y1 he
  · refine (rdG_miss v X 7 _ _ _ _ y0 y1 (by rw [he]; decide)).trans ?_
    refine (rdG_miss v X 6 _ _ _ _ y0 y1 (by rw [he]; decide)).trans ?_
    refine (rdG_miss v X 5 _ _ _ _ y0 y1 (by rw [he]; decide)).trans ?_
    refine (rdG_miss v X 4 _ _ _ _ y0 y1 (by rw [he]; decide)).trans ?_
    refine (rdG_miss v X 3 _ _ _ _ y0 y1 (by rw [he]; decide)).trans ?_
    exact rdG_hit v X 2 _ _ _ _ y0 y1 he
  · refine (rdG_miss v X 7 _ _ _ _ y0 y1 (by rw [he]; decide)).trans ?_
    refine (rdG_miss v X 6 _ _ _ _ y0 y1 (by rw [he]; decide)).trans ?_
    refine (rdG_miss v X 5 _ _ _ _ y0 y1 (by rw [he]; decide)).trans ?_
    refine (rdG_miss v X 4 _ _ _ _ y0 y1 (by rw [he]; decide)).trans ?_
    exact rdG_hit v X 3 _ _ _ _ y0 y1 he
  · refine (rdG_miss v X 7 _ _ _ _ y0 y1 (by rw [he]; decide)).trans ?_
    refine (rdG_miss v X 6 _ _ _ _ y0 y1 (by rw [he]; decide)).trans ?_
    refine (rdG_miss v X 5 _ _ _ _ y0 y1 (by rw [he]; decide)).trans ?_
    exact rdG_hit v X 4 _ _ _ _ y0 y1 he
  · refine (rdG_miss v X 7 _ _ _ _ y0 y1 (by rw [he]; decide)).trans ?_
    refine (rdG_miss v X 6 _ _ _ _ y0 y1 (by rw [he]; decide)).trans ?_
    exact rdG_hit v X 5 _ _ _ _ y0 y1 he
  · refine (rdG_miss v X 7 _ _ _ _ y0 y1 (by rw [he]; decide)).trans ?_
    exact rdG_hit v X 6 _ _ _ _ y0 y1 he
  · exact rdG_hit v X 7 _ _ _ _ y0 y1 he

end Loads

open Cert.Gdn

theorem ldG_at (v : Memref sig .tc .vmem S512x1024 .f32) (X : BufTy.Contents (Elt Ideal) v.view.ty) (h : Fin 8) (r : Fin 512) (j : Fin 128) :
    ldG v X h (ix2 r j) = v.view.read (Elt Ideal) X (ix2 r ⟨128 * h.val + j.val, by omega⟩ : S512x1024.Idx) := by
  refine congrArg (v.view.read (Elt Ideal) X) (funext fun a => ?_)
  fin_cases a
  · exact Fin.ext (show 0 + 1 * r.val = r.val by omega)
  · exact Fin.ext (show 128 * h.val + 1 * j.val = 128 * h.val + j.val by omega)

theorem ldZ_at (v : Memref sig .tc .vmem S1x512x1024 .f32) (X : BufTy.Contents (Elt Ideal) v.view.ty) (h : Fin 8) (r : Fin 512) (j : Fin 128) :
    ldZ v X h (ix3 0 r j) = v.view.read (Elt Ideal) X (ix3 0 r ⟨128 * h.val + j.val, by omega⟩ : S1x512x1024.Idx) := by
  refine congrArg (v.view.read (Elt Ideal) X) (funext fun a => ?_)
  fin_cases a
  · rfl
  · exact Fin.ext (show 0 + 1 * r.val = r.val by omega)
  · exact Fin.ext (show 128 * h.val + 1 * j.val = 128 * h.val + j.val by omega)

theorem ldN_at (v : Memref sig .tc .vmem S1x128 .f32) (X : BufTy.Contents (Elt Ideal) v.view.ty) (j : Fin 128) :
    ldN v X (ix2 0 j) = v.view.read (Elt Ideal) X (ix2 0 j : S1x128.Idx) := by
  refine congrArg (v.view.read (Elt Ideal) X) (funext fun a => ?_)
  fin_cases a
  · rfl
  · exact Fin.ext (show 0 + 1 * j.val = j.val by omega)

/-- The gated norm, entry by entry. -/
theorem gate_at (G : Vec Ideal S512x128 .f32) (N : Vec Ideal S1x128 .f32) (Z : Vec Ideal S1x512x128 .f32) (r : Fin 512) (j : Fin 128) :
    k0_pay121 G N Z (ix3 0 r j) = GATE (fun k => G (ix2 r k)) (N (ix2 0 j)) (Z (ix3 0 r j)) j := by
  unfold GATE
  pointwise [k0_pay121]

variable (arg2 : Memref sig .tc .vmem S1x8x512x128 .bf16) (arg3 : Memref sig .tc .vmem S1x8x512x128 .bf16) (arg4 : Memref sig .tc .vmem S1x8x512x128 .f32) (arg5 : Memref sig .tc .vmem S1x8x512x128 .bf16) (arg6 : Memref sig .tc .vmem S1x8x4x128x128 .bf16) (arg7 : Memref sig .tc .vmem S1x8x8x8x128 .f32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty)
variable (a0 a1 a2 a3 : Seq.Idx → EReal) (a4 : Keys.Idx → EReal) (a5 : Decay.Idx → EReal) (b : Fin 16) (h : Fin 8) (jb : Fin 4)
variable {arg2 arg3 arg4 arg5 arg6 arg7 X_arg2 X_arg3 X_arg4 X_arg5 X_arg6 X_arg7} {a0 a1 a2 a3 a4 a5 b jb}
variable (H : Holds arg2 arg3 arg4 arg5 arg6 arg7 X_arg2 X_arg3 X_arg4 X_arg5 X_arg6 X_arg7 a0 a1 a2 a3 a4 a5 b jb)
variable (𝒱 : Variants) (c : Dev nD) (bd : Option 𝒱.V) (i : grid0.Coords) (harg2 : arg2.IsWhole) (harg3 : arg3.IsWhole) (harg4 : arg4.IsWhole) (harg5 : arg5.IsWhole) (harg6 : arg6.IsWhole) (harg7 : arg7.IsWhole) (arg8 : Memref sig .tc .vmem S1x512x1024 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S8x128x128 .f32) (harg11 : arg11.IsWhole) (arg12 : Memref sig .tc .vmem S512x1024 .f32) (harg12 : arg12.IsWhole)
  (f : BufTy.Contents (Elt Ideal) arg11.view.ty) (g : BufTy.Contents (Elt Ideal) arg12.view.ty)

include H in
/-- The state a grid point leaves in its scratch, whole. -/
theorem point_state (hf : ∀ h : Fin 8, ∀ i j : Fin 128, ldS arg11 f h (ix3 0 i j) = ST a0 a2 a4 a5 b h (8 * jb.val) i j) :
    arg11.view.read (Elt Ideal) (arg11.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 f g k0_t1_loop.trips).1)
      = fun y : S8x128x128.Idx => ST a0 a2 a4 a5 b (y 0) (8 * (jb.val + 1)) (y 1) (y 2) := by
  funext y
  rw [← block_state (y 0) H 𝒱 c bd i harg2 harg3 harg4 harg5 harg6 harg7 arg8 harg8 arg9 harg9 arg10 harg10 arg11 harg11 arg12 harg12 f g (hf (y 0)) (y 1) (y 2)]
  refine congrArg (arg11.view.read (Elt Ideal) _) (funext fun a => ?_)
  fin_cases a
  · exact Fin.ext (show (y 0).val = (y 0).val + 1 * 0 by omega)
  · exact Fin.ext (show (y 1).val = 0 + 1 * (y 1).val by omega)
  · exact Fin.ext (show (y 2).val = 0 + 1 * (y 2).val by omega)

include H in
/-- The output a grid point leaves, whole. -/
theorem point_out (hf : ∀ h : Fin 8, ∀ i j : Fin 128, ldS arg11 f h (ix3 0 i j) = ST a0 a2 a4 a5 b h (8 * jb.val) i j)
    (v : Memref sig .tc .vmem S1x512x1024 .bf16) (X : BufTy.Contents (Elt Ideal) v.view.ty)
    (z : Memref sig .tc .vmem S1x512x1024 .f32) (Xz : BufTy.Contents (Elt Ideal) z.view.ty)
    (w : Memref sig .tc .vmem S1x128 .f32) (Xw : BufTy.Contents (Elt Ideal) w.view.ty)
    (a6 : Wide.Idx → EReal) (a7 : Fin 128 → EReal)
    (hz : ∀ (r : Fin 512) (x : Fin 1024), z.view.read (Elt Ideal) Xz (ix3 0 r x) = a6 (ix3 b ⟨512 * jb.val + r.val, by omega⟩ ⟨x.val, by omega⟩))
    (hw : ∀ x : Fin 128, w.view.read (Elt Ideal) Xw (ix2 0 x) = a7 x) :
    v.view.read (Elt Ideal) (v.view.writes (Elt Ideal) X (pieces (fun h => ldG arg12 (arg12.view.writes (Elt Ideal) g (pb_k0_t1 (F := Ideal) 𝒱 c bd i arg2 harg2 arg3 harg3 arg4 harg4 arg5 harg5 arg6 harg6 arg7 harg7 arg8 harg8 arg9 harg9 arg10 harg10 arg11 harg11 arg12 harg12 X_arg2 X_arg3 X_arg4 X_arg5 X_arg6 X_arg7 f g k0_t1_loop.trips).2) h) (ldN w Xw) (fun h => ldZ z Xz h)))
      = fun y : S1x512x1024.Idx => RES a0 a1 a2 a3 a4 a5 b a6 a7 ⟨512 * jb.val + (y 1).val, by have h1 : (y 1).val < 512 := (y 1).isLt; omega⟩ (y 2) := by
  funext y
  obtain ⟨y1, y2, rfl⟩ : ∃ (y1 : Fin 512) (y2 : Fin 1024), y = ix3 0 y1 y2 := ⟨y 1, y 2, funext fun a => by
    fin_cases a
    · exact Fin.ext (show (y 0).val = 0 by have h0 : (y 0).val < 1 := (y 0).isLt; omega)
    · rfl
    · rfl⟩
  show _ = RES a0 a1 a2 a3 a4 a5 b a6 a7 ⟨512 * jb.val + y1.val, _⟩ y2
  rw [pieces_at v X _ _ _ y1 y2 ⟨y2.val / 128, by omega⟩ rfl, gate_at, ldZ_at, ldN_at, hz, hw]
  unfold RES
  refine congr (congr (congr (congrArg GATE (funext fun k => ?_)) rfl) (congrArg a6 ?_)) rfl
  · rw [ldG_at, block_out H 𝒱 c bd i harg2 harg3 harg4 harg5 harg6 harg7 arg8 harg8 arg9 harg9 arg10 harg10 arg11 harg11 arg12 harg12 f g hf y1 _]
    refine congr (congr (congr (congrArg (OUT a0 a1 a2 a3 a4 a5 b) (Fin.ext ?_)) (Fin.ext ?_)) (Fin.ext ?_)) (Fin.ext ?_)
    · show (128 * (y2.val / 128) + k.val) / 128 = y2.val / 128
      omega
    · show 8 * jb.val + y1.val / 64 = (512 * jb.val + y1.val) / 64
      omega
    · show y1.val % 64 = (512 * jb.val + y1.val) % 64
      omega
    · show (128 * (y2.val / 128) + k.val) % 128 = k.val
      omega
  · refine congrArg (ix3 b _) (Fin.ext ?_)
    show 128 * (y2.val / 128) + y2.val % 128 = y2.val
    omega

end Cert.KernelIdeal.Hand

end
-- ==== Proof.GdnRun.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import proofs.«01_k».proof.Proof.GdnGate
@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The kernel clears its carried state at this grid point. -/
abbrev clears (i : grid0.Coords) : Prop :=
  (Scalar.cmpi .ne (Scalar.extui (Scalar.cmpi .eq (BitVec.ofNat 32 (i 1).val) 0#32)) 0#32) = 1#1

/-- The state is cleared at the first of every four points. -/
theorem clears_iff (t : Fin cfg0.N) : clears (grid0.coords t) ↔ t.val % 4 = 0 := by
  have ht : t.val < 64 := Nat.lt_of_lt_of_eq t.isLt N_0
  have e1 : (grid0.coords t 1).val = t.val / 1 % 4 := Pipeline.Grid.coords_val t 1 (by decide) rfl
  simp only [clears, e1]
  word_cmp

/-- The state cleared. -/
abbrev blank (v : Memref sig .tc .vmem S8x128x128 .f32) : BufTy.Contents (Elt F) v.view.ty :=
  v.view.writes (Elt F) v.view.junk [⟨Rect.unit (s := S8x128x128) ![0, 0, 0] S8x128x128.size inb_S8x128x128_S8x128x128_0_0_0, k0_pay118⟩]

/-! Every head's payload is the first head's. -/
theorem gated1 (G : Vec F S512x128 .f32) (N : Vec F S1x128 .f32) (Z : Vec F S1x512x128 .f32) : k0_pay123 G (k0_pay122 G) N Z = k0_pay121 G N Z := rfl
theorem gated2 (G : Vec F S512x128 .f32) (N : Vec F S1x128 .f32) (Z : Vec F S1x512x128 .f32) : k0_pay127 (k0_pay124 G N) (k0_pay125 Z) (k0_pay126 Z) = k0_pay121 G N Z := rfl
theorem gated3 (G : Vec F S512x128 .f32) (N : Vec F S1x128 .f32) (Z : Vec F S1x512x128 .f32) : k0_pay128 G N Z = k0_pay121 G N Z := rfl
theorem gated4 (G : Vec F S512x128 .f32) (N : Vec F S1x128 .f32) (Z : Vec F S1x512x128 .f32) : k0_pay131 G (k0_pay129 G) k0_pay130 N Z = k0_pay121 G N Z := rfl
theorem gated5 (G : Vec F S512x128 .f32) (N : Vec F S1x128 .f32) (Z : Vec F S1x512x128 .f32) : k0_pay133 (k0_pay132 G N Z) = k0_pay121 G N Z := rfl
theorem gated6 (G : Vec F S512x128 .f32) (N : Vec F S1x128 .f32) (Z : Vec F S1x512x128 .f32) : k0_pay134 G N Z = k0_pay121 G N Z := rfl
theorem gated7 (G : Vec F S512x128 .f32) (N : Vec F S1x128 .f32) (Z : Vec F S1x512x128 .f32) : k0_pay1 (k0_pay135 G) N Z = k0_pay121 G N Z := rfl

set_option maxHeartbeats 1000000 in
theorem run_first (c : Dev nD) (i : grid0.Coords) (arg2 : Memref sig .tc .vmem S1x8x512x128 .bf16) (harg2 : arg2.IsWhole) (arg3 : Memref sig .tc .vmem S1x8x512x128 .bf16) (harg3 : arg3.IsWhole) (arg4 : Memref sig .tc .vmem S1x8x512x128 .f32) (harg4 : arg4.IsWhole) (arg5 : Memref sig .tc .vmem S1x8x512x128 .bf16) (harg5 : arg5.IsWhole) (arg6 : Memref sig .tc .vmem S1x8x4x128x128 .bf16) (harg6 : arg6.IsWhole) (arg7 : Memref sig .tc .vmem S1x8x8x8x128 .f32) (harg7 : arg7.IsWhole) (arg8 : Memref sig .tc .vmem S1x512x1024 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S8x128x128 .f32) (harg11 : arg11.IsWhole) (arg12 : Memref sig .tc .vmem S512x1024 .f32) (harg12 : arg12.IsWhole)
    (x0 : Vec F S1x8x512x128 .bf16) (x1 : Vec F S1x8x512x128 .bf16) (x2 : Vec F S1x8x512x128 .f32) (x3 : Vec F S1x8x512x128 .bf16) (x4 : Vec F S1x8x4x128x128 .bf16) (x5 : Vec F S1x8x8x8x128 .f32) (x6 : Vec F S1x512x1024 .f32) (x7 : Vec F S1x128 .f32)  (hc0 : clears i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f8 fs1, owns (c : Thread nD τ) arg10 fullShare (View.read (Elt F) arg10.view (arg10.view.writes (Elt F) f8 (pieces (fun h => ldG arg12 (arg12.view.writes (Elt F) fs1 (pb_k0_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (blank arg11) fs1 k0_t1_loop.trips).2) h) (ldN arg9 (harg9.unread x7)) (fun h => ldZ arg8 (harg8.unread x6) h)))) ∗ owns (c : Thread nD τ) arg11 fullShare (View.read (Elt F) arg11.view (arg11.view.writes (Elt F) (blank arg11) (pb_k0_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (blank arg11) fs1 k0_t1_loop.trips).1))) ∗ (∃ d, owns (c : Thread nD τ) arg12 fullShare d)) -∗ K ⟨⟩))
      ⊢ wp frame (wpE (defs₀ (F := F)) Variants.none c none) E (cc0_gdn_scan i arg2 harg2 arg3 harg3 arg4 harg4 arg5 harg5 arg6 harg6 arg7 harg7 arg8 harg8 arg9 harg9 arg10 harg10 arg11 harg11 arg12 harg12) K := by
  simp only [cc0_gdn_scan_eq_skeleton]; unfold cc0_gdn_scan_skel
  simp only [k0_part22_eq_skeleton, k0_part23_eq_skeleton, k0_part24_eq_skeleton, k0_part25_eq_skeleton, k0_part26_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8 HS0]
  · iexists f8, fs1
    isplitl [H8]
    · iexists _; isplitr; swap; · iexact H8
      ipureintro
      refine congrArg (fun L => View.read (Elt F) arg10.view (arg10.view.writes (Elt F) f8 L)) ?_
      rfl
    · iexists _; isplitr; swap; · iexact HS0
      ipureintro
      exact congrArg (View.read (Elt F) arg11.view) (View.writes_append _ _ _ _)
  iexists _, _; isplitr; swap; · iexact HS1
  ipureintro; rfl

set_option maxHeartbeats 1000000 in
theorem run_next (c : Dev nD) (i : grid0.Coords) (arg2 : Memref sig .tc .vmem S1x8x512x128 .bf16) (harg2 : arg2.IsWhole) (arg3 : Memref sig .tc .vmem S1x8x512x128 .bf16) (harg3 : arg3.IsWhole) (arg4 : Memref sig .tc .vmem S1x8x512x128 .f32) (harg4 : arg4.IsWhole) (arg5 : Memref sig .tc .vmem S1x8x512x128 .bf16) (harg5 : arg5.IsWhole) (arg6 : Memref sig .tc .vmem S1x8x4x128x128 .bf16) (harg6 : arg6.IsWhole) (arg7 : Memref sig .tc .vmem S1x8x8x8x128 .f32) (harg7 : arg7.IsWhole) (arg8 : Memref sig .tc .vmem S1x512x1024 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S8x128x128 .f32) (harg11 : arg11.IsWhole) (arg12 : Memref sig .tc .vmem S512x1024 .f32) (harg12 : arg12.IsWhole)
    (x0 : Vec F S1x8x512x128 .bf16) (x1 : Vec F S1x8x512x128 .bf16) (x2 : Vec F S1x8x512x128 .f32) (x3 : Vec F S1x8x512x128 .bf16) (x4 : Vec F S1x8x4x128x128 .bf16) (x5 : Vec F S1x8x8x8x128 .f32) (x6 : Vec F S1x512x1024 .f32) (x7 : Vec F S1x128 .f32) (xs : Vec F S8x128x128 .f32) (hc0 : ¬ clears i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f8 fs1, owns (c : Thread nD τ) arg10 fullShare (View.read (Elt F) arg10.view (arg10.view.writes (Elt F) f8 (pieces (fun h => ldG arg12 (arg12.view.writes (Elt F) fs1 (pb_k0_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg11.unread xs) fs1 k0_t1_loop.trips).2) h) (ldN arg9 (harg9.unread x7)) (fun h => ldZ arg8 (harg8.unread x6) h)))) ∗ owns (c : Thread nD τ) arg11 fullShare (View.read (Elt F) arg11.view (arg11.view.writes (Elt F) (harg11.unread xs) (pb_k0_t1 (F := F) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg11.unread xs) fs1 k0_t1_loop.trips).1))) ∗ (∃ d, owns (c : Thread nD τ) arg12 fullShare d)) -∗ K ⟨⟩))
      ⊢ wp frame (wpE (defs₀ (F := F)) Variants.none c none) E (cc0_gdn_scan i arg2 harg2 arg3 harg3 arg4 harg4 arg5 harg5 arg6 harg6 arg7 harg7 arg8 harg8 arg9 harg9 arg10 harg10 arg11 harg11 arg12 harg12) K := by
  simp only [cc0_gdn_scan_eq_skeleton]; unfold cc0_gdn_scan_skel
  simp only [k0_part22_eq_skeleton, k0_part23_eq_skeleton, k0_part24_eq_skeleton, k0_part25_eq_skeleton, k0_part26_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  obtain rfl := harg11.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8 HS0]
  · iexists f8, fs1
    isplitl [H8]
    · iexists _; isplitr; swap; · iexact H8
      ipureintro
      refine congrArg (fun L => View.read (Elt F) arg10.view (arg10.view.writes (Elt F) f8 L)) ?_
      rfl
    · iexists _; isplitr; swap; · iexact HS0
      ipureintro
      rfl
  iexists _, _; isplitr; swap; · iexact HS1
  ipureintro; rfl

end Cert.KernelIdeal.Hand

end
-- ==== Proof.GdnBody.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import proofs.«01_k».proof.Proof.GdnRun
@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Gdn
local notation "𝕄" => MT nD τ sig Unit (Elt Ideal) ℕ (UR sig nD τ) ℕ
variable (m : (ℓ : Loc nD τ sig) → Buf (Elt Ideal) ℓ) (ρ : Dev nD → PrngReg)
/-- The block buffer of window 0 the call holds at point `t`. -/
def buf0 (t : Fin cfg0.N) : Memref sig .tc .vmem S1x8x512x128 .bf16 := win0_0.stage (cfg0.slots t 0)
theorem hbuf0 (t : Fin cfg0.N) : (buf0 t).IsWhole := hstage0_0 ((cfg0.slots t 0).cast nbuf0_0)
/-- The block buffer of window 1 the call holds at point `t`. -/
def buf1 (t : Fin cfg0.N) : Memref sig .tc .vmem S1x8x512x128 .bf16 := win0_1.stage (cfg0.slots t 1)
theorem hbuf1 (t : Fin cfg0.N) : (buf1 t).IsWhole := hstage0_1 ((cfg0.slots t 1).cast nbuf0_1)
/-- The block buffer of window 2 the call holds at point `t`. -/
def buf2 (t : Fin cfg0.N) : Memref sig .tc .vmem S1x8x512x128 .f32 := win0_2.stage (cfg0.slots t 2)
theorem hbuf2 (t : Fin cfg0.N) : (buf2 t).IsWhole := hstage0_2 ((cfg0.slots t 2).cast nbuf0_2)
/-- The block buffer of window 3 the call holds at point `t`. -/
def buf3 (t : Fin cfg0.N) : Memref sig .tc .vmem S1x8x512x128 .bf16 := win0_3.stage (cfg0.slots t 3)
theorem hbuf3 (t : Fin cfg0.N) : (buf3 t).IsWhole := hstage0_3 ((cfg0.slots t 3).cast nbuf0_3)
/-- The block buffer of window 4 the call holds at point `t`. -/
def buf4 (t : Fin cfg0.N) : Memref sig .tc .vmem S1x8x4x128x128 .bf16 := win0_4.stage (cfg0.slots t 4)
theorem hbuf4 (t : Fin cfg0.N) : (buf4 t).IsWhole := hstage0_4 ((cfg0.slots t 4).cast nbuf0_4)
/-- The block buffer of window 5 the call holds at point `t`. -/
def buf5 (t : Fin cfg0.N) : Memref sig .tc .vmem S1x8x8x8x128 .f32 := win0_5.stage (cfg0.slots t 5)
theorem hbuf5 (t : Fin cfg0.N) : (buf5 t).IsWhole := hstage0_5 ((cfg0.slots t 5).cast nbuf0_5)
/-- The block buffer of window 6 the call holds at point `t`. -/
def buf6 (t : Fin cfg0.N) : Memref sig .tc .vmem S1x512x1024 .f32 := win0_6.stage (cfg0.slots t 6)
theorem hbuf6 (t : Fin cfg0.N) : (buf6 t).IsWhole := hstage0_6 ((cfg0.slots t 6).cast nbuf0_6)
/-- The block buffer of window 7 the call holds at point `t`. -/
def buf7 (t : Fin cfg0.N) : Memref sig .tc .vmem S1x128 .f32 := win0_7.stage (cfg0.slots t 7)
theorem hbuf7 (t : Fin cfg0.N) : (buf7 t).IsWhole := hstage0_7 ((cfg0.slots t 7).cast nbuf0_7)
/-- The block buffer of window 8 the call holds at point `t`. -/
def buf8 (t : Fin cfg0.N) : Memref sig .tc .vmem S1x512x1024 .bf16 := win0_8.stage (cfg0.slots t 8)
theorem hbuf8 (t : Fin cfg0.N) : (buf8 t).IsWhole := hstage0_8 ((cfg0.slots t 8).cast nbuf0_8)
/-- The two scratch arrays: the carried state, and the block of raw outputs. -/
abbrev scState : Memref sig .tc .vmem S8x128x128 .f32 := Memref.whole cc0_scratch0
abbrev scOut : Memref sig .tc .vmem S512x1024 .f32 := Memref.whole cc0_scratch1

/-- What the launch hands the call beside the windows: both scratch arrays and the generator register. -/
theorem scratch_eq (c : Dev nD) : (Pipeline.ΦA spec0 c : sProp 𝕄)
    = iprop(iprop((∃ d, owns (c : Thread nD τ) scState fullShare d) ∗ (∃ d, owns (c : Thread nD τ) scOut fullShare d)) ∗ (∃ r, prngReg c r)) := by
  unfold Pipeline.ΦA; rw [scopedRest0_eq]; simp only [scState, scOut, owns_whole]; try rfl

section Fill
variable {F : FTy → Type} [FloatOps F]

/-- The state after it is cleared. -/
theorem cleared (v : Memref sig .tc .vmem S8x128x128 .f32) (X : BufTy.Contents (Elt F) v.view.ty) (inb : ∀ a, (![0, 0, 0] : Fin 3 → ℕ) a + S8x128x128.size a ≤ S8x128x128.size a)
    (w : Vec F S8x128x128 .f32) (h : Fin 8) (i j : Fin 128) :
    ldS v (v.view.writes (Elt F) X [⟨Rect.unit (s := S8x128x128) ![0, 0, 0] S8x128x128.size inb, w⟩]) h (ix3 0 i j) = w (ix3 h i j) := by
  refine View.read_writes_cons_unit_of_mem v.view X inb w [] _ (ix3 h i j : S8x128x128.Idx) rfl fun a => ?_
  fin_cases a
  · show h.val + 1 * 0 = 0 + h.val
    omega
  · show 0 + 1 * i.val = 0 + i.val
    omega
  · show 0 + 1 * j.val = 0 + j.val
    omega

/-- The state as it is read before the loop. -/
theorem kept (v : Memref sig .tc .vmem S8x128x128 .f32) (X : BufTy.Contents (Elt F) v.view.ty) (h : Fin 8) (i j : Fin 128) :
    ldS v X h (ix3 0 i j) = v.view.read (Elt F) X (ix3 h i j : S8x128x128.Idx) := by
  refine congrArg (v.view.read (Elt F) X) (funext fun a => ?_)
  fin_cases a
  · exact Fin.ext (show h.val + 1 * 0 = h.val by omega)
  · exact Fin.ext (show 0 + 1 * i.val = i.val by omega)
  · exact Fin.ext (show 0 + 1 * j.val = j.val by omega)

end Fill

theorem zero_fill (y : S8x128x128.Idx) : (k0_pay118 (F := Ideal)) y = 0 := by
  pointwise [k0_pay118]

/-- What the inputs of a grid point hold, on the argument arrays. -/
structure Blocks (x0 x1 : Vec Ideal S1x8x512x128 .bf16) (x2 : Vec Ideal S1x8x512x128 .f32) (x3 : Vec Ideal S1x8x512x128 .bf16)
    (x4 : Vec Ideal S1x8x4x128x128 .bf16) (x5 : Vec Ideal S1x8x8x8x128 .f32) (x6 : Vec Ideal S1x512x1024 .f32) (x7 : Vec Ideal S1x128 .f32)
    (a0 a1 a2 a3 : Seq.Idx → EReal) (a4 : Keys.Idx → EReal) (a5 : Decay.Idx → EReal) (a6 : Wide.Idx → EReal) (a7 : Fin 128 → EReal) (b : Fin 16) (jb : Fin 4) : Prop where
  d0 : ∀ (h : Fin 8) (r : Fin 512) (x : Fin 128), x0 (ix4 0 h r x) = a0 (ix4 b h ⟨512 * jb.val + r.val, by omega⟩ x)
  d1 : ∀ (h : Fin 8) (r : Fin 512) (x : Fin 128), x1 (ix4 0 h r x) = a1 (ix4 b h ⟨512 * jb.val + r.val, by omega⟩ x)
  d2 : ∀ (h : Fin 8) (r : Fin 512) (x : Fin 128), x2 (ix4 0 h r x) = a2 (ix4 b h ⟨512 * jb.val + r.val, by omega⟩ x)
  d3 : ∀ (h : Fin 8) (r : Fin 512) (x : Fin 128), x3 (ix4 0 h r x) = a3 (ix4 b h ⟨512 * jb.val + r.val, by omega⟩ x)
  d4 : ∀ (h : Fin 8) (p : Fin 4) (i x : Fin 128), x4 (ix5 0 h p i x) = a4 (ix5 b h ⟨4 * jb.val + p.val, by omega⟩ i x)
  d5 : ∀ (h : Fin 8) (p : Fin 8) (s : Fin 8) (x : Fin 128), x5 (ix5 0 h p s x) = a5 (ix5 b h ⟨8 * jb.val + p.val, by omega⟩ s x)
  d6 : ∀ (r : Fin 512) (x : Fin 1024), x6 (ix3 0 r x) = a6 (ix3 b ⟨512 * jb.val + r.val, by omega⟩ ⟨x.val, by omega⟩)
  d7 : ∀ x : Fin 128, x7 (ix2 0 x) = a7 x

/-- The state scratch before block `n` of a sequence, over all heads. -/
abbrev stAt (a0 a2 : Seq.Idx → EReal) (a4 : Keys.Idx → EReal) (a5 : Decay.Idx → EReal) (b : Fin 16) (n : ℕ) : Vec Ideal S8x128x128 .f32 :=
  fun y => ST a0 a2 a4 a5 b (y 0) (8 * n) (y 1) (y 2)

/-- The output block of a grid point. -/
abbrev resAt (a0 a1 a2 a3 : Seq.Idx → EReal) (a4 : Keys.Idx → EReal) (a5 : Decay.Idx → EReal) (a6 : Wide.Idx → EReal) (a7 : Fin 128 → EReal)
    (b : Fin 16) (jb : Fin 4) : Vec Ideal S1x512x1024 .bf16 :=
  fun y => RES a0 a1 a2 a3 a4 a5 b a6 a7 ⟨512 * jb.val + (y 1).val, by have h1 : (y 1).val < 512 := (y 1).isLt; omega⟩ (y 2)

/-- The loop's inputs hold the argument arrays. -/
theorem holds_of {arg2 : Memref sig .tc .vmem S1x8x512x128 .bf16} (harg2 : arg2.IsWhole) {arg3 : Memref sig .tc .vmem S1x8x512x128 .bf16} (harg3 : arg3.IsWhole) {arg4 : Memref sig .tc .vmem S1x8x512x128 .f32} (harg4 : arg4.IsWhole) {arg5 : Memref sig .tc .vmem S1x8x512x128 .bf16} (harg5 : arg5.IsWhole) {arg6 : Memref sig .tc .vmem S1x8x4x128x128 .bf16} (harg6 : arg6.IsWhole) {arg7 : Memref sig .tc .vmem S1x8x8x8x128 .f32} (harg7 : arg7.IsWhole)
    {x0 : Vec Ideal S1x8x512x128 .bf16} {x1 : Vec Ideal S1x8x512x128 .bf16} {x2 : Vec Ideal S1x8x512x128 .f32} {x3 : Vec Ideal S1x8x512x128 .bf16} {x4 : Vec Ideal S1x8x4x128x128 .bf16} {x5 : Vec Ideal S1x8x8x8x128 .f32} {x6 : Vec Ideal S1x512x1024 .f32} {x7 : Vec Ideal S1x128 .f32} {a0 a1 a2 a3 : Seq.Idx → EReal} {a4 : Keys.Idx → EReal} {a5 : Decay.Idx → EReal} {a6 : Wide.Idx → EReal} {a7 : Fin 128 → EReal} {b : Fin 16} {jb : Fin 4}
  (D : Blocks x0 x1 x2 x3 x4 x5 x6 x7 a0 a1 a2 a3 a4 a5 a6 a7 b jb) :
    Holds arg2 arg3 arg4 arg5 arg6 arg7 (harg2.unread x0) (harg3.unread x1) (harg4.unread x2) (harg5.unread x3) (harg6.unread x4) (harg7.unread x5) a0 a1 a2 a3 a4 a5 b jb where
  e2 h r x := by rw [harg2.read_unread]; exact D.d0 h r x
  e3 h r x := by rw [harg3.read_unread]; exact D.d1 h r x
  e4 h r x := by rw [harg4.read_unread]; exact D.d2 h r x
  e5 h r x := by rw [harg5.read_unread]; exact D.d3 h r x
  e6 h p i x := by rw [harg6.read_unread]; exact D.d4 h p i x
  e7 h p s x := by rw [harg7.read_unread]; exact D.d5 h p s x

theorem body_first (c : Dev nD) (i : grid0.Coords) (arg2 : Memref sig .tc .vmem S1x8x512x128 .bf16) (harg2 : arg2.IsWhole) (arg3 : Memref sig .tc .vmem S1x8x512x128 .bf16) (harg3 : arg3.IsWhole) (arg4 : Memref sig .tc .vmem S1x8x512x128 .f32) (harg4 : arg4.IsWhole) (arg5 : Memref sig .tc .vmem S1x8x512x128 .bf16) (harg5 : arg5.IsWhole) (arg6 : Memref sig .tc .vmem S1x8x4x128x128 .bf16) (harg6 : arg6.IsWhole) (arg7 : Memref sig .tc .vmem S1x8x8x8x128 .f32) (harg7 : arg7.IsWhole) (arg8 : Memref sig .tc .vmem S1x512x1024 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S8x128x128 .f32) (harg11 : arg11.IsWhole) (arg12 : Memref sig .tc .vmem S512x1024 .f32) (harg12 : arg12.IsWhole)
    {x0 : Vec Ideal S1x8x512x128 .bf16} {x1 : Vec Ideal S1x8x512x128 .bf16} {x2 : Vec Ideal S1x8x512x128 .f32} {x3 : Vec Ideal S1x8x512x128 .bf16} {x4 : Vec Ideal S1x8x4x128x128 .bf16} {x5 : Vec Ideal S1x8x8x8x128 .f32} {x6 : Vec Ideal S1x512x1024 .f32} {x7 : Vec Ideal S1x128 .f32} {a0 a1 a2 a3 : Seq.Idx → EReal} {a4 : Keys.Idx → EReal} {a5 : Decay.Idx → EReal} {a6 : Wide.Idx → EReal} {a7 : Fin 128 → EReal} {b : Fin 16} {jb : Fin 4}
  (D : Blocks x0 x1 x2 x3 x4 x5 x6 x7 a0 a1 a2 a3 a4 a5 a6 a7 b jb) (hc0 : clears i) (hj : jb.val = 0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (resAt a0 a1 a2 a3 a4 a5 a6 a7 b jb) ∗ owns (c : Thread nD τ) arg11 fullShare (stAt a0 a2 a4 a5 b (jb.val + 1)) ∗ (∃ d, owns (c : Thread nD τ) arg12 fullShare d)) -∗ K ⟨⟩))
      ⊢ wp frame (wpE (defs₀ (F := Ideal)) Variants.none c none) E (cc0_gdn_scan i arg2 harg2 arg3 harg3 arg4 harg4 arg5 harg5 arg6 harg6 arg7 harg7 arg8 harg8 arg9 harg9 arg10 harg10 arg11 harg11 arg12 harg12) K := by
  have e10 : ∀ f8 fs1, owns (c : Thread nD τ) arg10 fullShare (View.read (Elt Ideal) arg10.view (arg10.view.writes (Elt Ideal) f8 (pieces (fun h => ldG arg12 (arg12.view.writes (Elt Ideal) fs1 (pb_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (blank arg11) fs1 k0_t1_loop.trips).2) h) (ldN arg9 (harg9.unread x7)) (fun h => ldZ arg8 (harg8.unread x6) h)))) ⊢ (owns (c : Thread nD τ) arg10 fullShare (resAt a0 a1 a2 a3 a4 a5 a6 a7 b jb) : sProp 𝕄) := fun f8 fs1 =>
    Entails.of_eq (congrArg (owns (c : Thread nD τ) arg10 fullShare ) (point_out (holds_of (arg2 := arg2) (arg3 := arg3) (arg4 := arg4) (arg5 := arg5) (arg6 := arg6) (arg7 := arg7) harg2 harg3 harg4 harg5 harg6 harg7 D) Variants.none c none i harg2 harg3 harg4 harg5 harg6 harg7 arg8 harg8 arg9 harg9 arg10 harg10 arg11 harg11 arg12 harg12 (blank arg11) fs1 (fun h i j => by rw [hj]; exact (cleared arg11 _ _ _ h i j).trans (zero_fill _)) arg10 f8 arg8 (harg8.unread x6) arg9 (harg9.unread x7) a6 a7
      (fun r x => by rw [harg8.read_unread]; exact D.d6 r x) (fun x => by rw [harg9.read_unread]; exact D.d7 x)))
  have e11 : ∀ fs1, owns (c : Thread nD τ) arg11 fullShare (View.read (Elt Ideal) arg11.view (arg11.view.writes (Elt Ideal) (blank arg11) (pb_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (blank arg11) fs1 k0_t1_loop.trips).1)) ⊢ (owns (c : Thread nD τ) arg11 fullShare (stAt a0 a2 a4 a5 b (jb.val + 1)) : sProp 𝕄) := fun fs1 =>
    Entails.of_eq (congrArg (owns (c : Thread nD τ) arg11 fullShare ) (point_state (holds_of (arg2 := arg2) (arg3 := arg3) (arg4 := arg4) (arg5 := arg5) (arg6 := arg6) (arg7 := arg7) harg2 harg3 harg4 harg5 harg6 harg7 D) Variants.none c none i harg2 harg3 harg4 harg5 harg6 harg7 arg8 harg8 arg9 harg9 arg10 harg10 arg11 harg11 arg12 harg12 (blank arg11) fs1 (fun h i j => by rw [hj]; exact (cleared arg11 _ _ _ h i j).trans (zero_fill _))))
  refine .trans ?_ (run_first (F := Ideal) c i arg2 harg2 arg3 harg3 arg4 harg4 arg5 harg5 arg6 harg6 arg7 harg7 arg8 harg8 arg9 harg9 arg10 harg10 arg11 harg11 arg12 harg12 x0 x1 x2 x3 x4 x5 x6 x7  hc0 E K)
  iintro ⟨H0, H1, H2, H3, H4, H5, H6, H7, H8, HS0, HS1, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, ⟨%f8, %fs1, H8, HS0⟩, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply e10 f8 fs1; iexact H8
  isplitl [HS0]; · iapply e11 fs1; iexact HS0
  iexact HS1

theorem body_next (c : Dev nD) (i : grid0.Coords) (arg2 : Memref sig .tc .vmem S1x8x512x128 .bf16) (harg2 : arg2.IsWhole) (arg3 : Memref sig .tc .vmem S1x8x512x128 .bf16) (harg3 : arg3.IsWhole) (arg4 : Memref sig .tc .vmem S1x8x512x128 .f32) (harg4 : arg4.IsWhole) (arg5 : Memref sig .tc .vmem S1x8x512x128 .bf16) (harg5 : arg5.IsWhole) (arg6 : Memref sig .tc .vmem S1x8x4x128x128 .bf16) (harg6 : arg6.IsWhole) (arg7 : Memref sig .tc .vmem S1x8x8x8x128 .f32) (harg7 : arg7.IsWhole) (arg8 : Memref sig .tc .vmem S1x512x1024 .f32) (harg8 : arg8.IsWhole) (arg9 : Memref sig .tc .vmem S1x128 .f32) (harg9 : arg9.IsWhole) (arg10 : Memref sig .tc .vmem S1x512x1024 .bf16) (harg10 : arg10.IsWhole) (arg11 : Memref sig .tc .vmem S8x128x128 .f32) (harg11 : arg11.IsWhole) (arg12 : Memref sig .tc .vmem S512x1024 .f32) (harg12 : arg12.IsWhole)
    {x0 : Vec Ideal S1x8x512x128 .bf16} {x1 : Vec Ideal S1x8x512x128 .bf16} {x2 : Vec Ideal S1x8x512x128 .f32} {x3 : Vec Ideal S1x8x512x128 .bf16} {x4 : Vec Ideal S1x8x4x128x128 .bf16} {x5 : Vec Ideal S1x8x8x8x128 .f32} {x6 : Vec Ideal S1x512x1024 .f32} {x7 : Vec Ideal S1x128 .f32} {a0 a1 a2 a3 : Seq.Idx → EReal} {a4 : Keys.Idx → EReal} {a5 : Decay.Idx → EReal} {a6 : Wide.Idx → EReal} {a7 : Fin 128 → EReal} {b : Fin 16} {jb : Fin 4}
  (D : Blocks x0 x1 x2 x3 x4 x5 x6 x7 a0 a1 a2 a3 a4 a5 a6 a7 b jb) (hc0 : ¬ clears i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare (stAt a0 a2 a4 a5 b jb.val) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (resAt a0 a1 a2 a3 a4 a5 a6 a7 b jb) ∗ owns (c : Thread nD τ) arg11 fullShare (stAt a0 a2 a4 a5 b (jb.val + 1)) ∗ (∃ d, owns (c : Thread nD τ) arg12 fullShare d)) -∗ K ⟨⟩))
      ⊢ wp frame (wpE (defs₀ (F := Ideal)) Variants.none c none) E (cc0_gdn_scan i arg2 harg2 arg3 harg3 arg4 harg4 arg5 harg5 arg6 harg6 arg7 harg7 arg8 harg8 arg9 harg9 arg10 harg10 arg11 harg11 arg12 harg12) K := by
  have e10 : ∀ f8 fs1, owns (c : Thread nD τ) arg10 fullShare (View.read (Elt Ideal) arg10.view (arg10.view.writes (Elt Ideal) f8 (pieces (fun h => ldG arg12 (arg12.view.writes (Elt Ideal) fs1 (pb_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg11.unread (stAt a0 a2 a4 a5 b jb.val)) fs1 k0_t1_loop.trips).2) h) (ldN arg9 (harg9.unread x7)) (fun h => ldZ arg8 (harg8.unread x6) h)))) ⊢ (owns (c : Thread nD τ) arg10 fullShare (resAt a0 a1 a2 a3 a4 a5 a6 a7 b jb) : sProp 𝕄) := fun f8 fs1 =>
    Entails.of_eq (congrArg (owns (c : Thread nD τ) arg10 fullShare ) (point_out (holds_of (arg2 := arg2) (arg3 := arg3) (arg4 := arg4) (arg5 := arg5) (arg6 := arg6) (arg7 := arg7) harg2 harg3 harg4 harg5 harg6 harg7 D) Variants.none c none i harg2 harg3 harg4 harg5 harg6 harg7 arg8 harg8 arg9 harg9 arg10 harg10 arg11 harg11 arg12 harg12 (harg11.unread (stAt a0 a2 a4 a5 b jb.val)) fs1 (fun h i j => (kept arg11 _ h i j).trans (by rw [harg11.read_unread]; rfl)) arg10 f8 arg8 (harg8.unread x6) arg9 (harg9.unread x7) a6 a7
      (fun r x => by rw [harg8.read_unread]; exact D.d6 r x) (fun x => by rw [harg9.read_unread]; exact D.d7 x)))
  have e11 : ∀ fs1, owns (c : Thread nD τ) arg11 fullShare (View.read (Elt Ideal) arg11.view (arg11.view.writes (Elt Ideal) (harg11.unread (stAt a0 a2 a4 a5 b jb.val)) (pb_k0_t1 (F := Ideal) Variants.none c none i arg2 harg2 arg3 harg3 arg4 harg4 arg5 harg5 arg6 harg6 arg7 harg7 arg8 harg8 arg9 harg9 arg10 harg10 arg11 harg11 arg12 harg12 (harg2.unread x0) (harg3.unread x1) (harg4.unread x2) (harg5.unread x3) (harg6.unread x4) (harg7.unread x5) (harg11.unread (stAt a0 a2 a4 a5 b jb.val)) fs1 k0_t1_loop.trips).1)) ⊢ (owns (c : Thread nD τ) arg11 fullShare (stAt a0 a2 a4 a5 b (jb.val + 1)) : sProp 𝕄) := fun fs1 =>
    Entails.of_eq (congrArg (owns (c : Thread nD τ) arg11 fullShare ) (point_state (holds_of (arg2 := arg2) (arg3 := arg3) (arg4 := arg4) (arg5 := arg5) (arg6 := arg6) (arg7 := arg7) harg2 harg3 harg4 harg5 harg6 harg7 D) Variants.none c none i harg2 harg3 harg4 harg5 harg6 harg7 arg8 harg8 arg9 harg9 arg10 harg10 arg11 harg11 arg12 harg12 (harg11.unread (stAt a0 a2 a4 a5 b jb.val)) fs1 (fun h i j => (kept arg11 _ h i j).trans (by rw [harg11.read_unread]; rfl))))
  refine .trans ?_ (run_next (F := Ideal) c i arg2 harg2 arg3 harg3 arg4 harg4 arg5 harg5 arg6 harg6 arg7 harg7 arg8 harg8 arg9 harg9 arg10 harg10 arg11 harg11 arg12 harg12 x0 x1 x2 x3 x4 x5 x6 x7 (stAt a0 a2 a4 a5 b jb.val) hc0 E K)
  iintro ⟨H0, H1, H2, H3, H4, H5, H6, H7, H8, HS0, HS1, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, ⟨%f8, %fs1, H8, HS0⟩, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply e10 f8 fs1; iexact H8
  isplitl [HS0]; · iapply e11 fs1; iexact HS0
  iexact HS1

end Cert.KernelIdeal.Hand

end
-- ==== Proof.GdnValue.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import proofs.«01_k».proof.Proof.GdnBody
public import Idealize.ShloMosaic.Lib.Pipeline.ValueKit
public import Idealize.ShloMosaic.Lib.Pointwise
@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Gdn
local notation "𝕄" => MT nD τ sig Unit (Elt Ideal) ℕ (UR sig nD τ) ℕ
variable (m : (ℓ : Loc nD τ sig) → Buf (Elt Ideal) ℓ) (ρ : Dev nD → PrngReg)

/-! The argument arrays. -/
abbrev A0 (c : Dev nD) : Seq.Idx → EReal := m ((c : Thread nD τ).loc main_arg0)
abbrev A1 (c : Dev nD) : Seq.Idx → EReal := m ((c : Thread nD τ).loc main_arg1)
abbrev A2 (c : Dev nD) : Seq.Idx → EReal := m ((c : Thread nD τ).loc main_arg2)
abbrev A3 (c : Dev nD) : Seq.Idx → EReal := m ((c : Thread nD τ).loc main_arg3)
abbrev A4 (c : Dev nD) : Keys.Idx → EReal := m ((c : Thread nD τ).loc main_arg4)
abbrev A5 (c : Dev nD) : Decay.Idx → EReal := m ((c : Thread nD τ).loc main_arg5)
abbrev A6 (c : Dev nD) : Wide.Idx → EReal := m ((c : Thread nD τ).loc main_arg6)
abbrev A7 (c : Dev nD) : Fin 128 → EReal := fun x => m ((c : Thread nD τ).loc main_arg7) (ix1 x)

/-- The sequence of point `t`, and its block of rows. -/
def bOf (t : Fin cfg0.N) : Fin 16 := ⟨t.val / 4, by have h := lt_of_lt_of_eq t.isLt N_0; omega⟩
def jOf (t : Fin cfg0.N) : Fin 4 := ⟨t.val % 4, by omega⟩

theorem idx : ∀ t : Fin cfg0.N, win0_0.index t = ![t.val / 4, 0, t.val % 4, 0] ∧ win0_1.index t = ![t.val / 4, 0, t.val % 4, 0]
    ∧ win0_2.index t = ![t.val / 4, 0, t.val % 4, 0] ∧ win0_3.index t = ![t.val / 4, 0, t.val % 4, 0]
    ∧ win0_4.index t = ![t.val / 4, 0, t.val % 4, 0, 0] ∧ win0_5.index t = ![t.val / 4, 0, t.val % 4, 0, 0]
    ∧ win0_6.index t = ![t.val / 4, t.val % 4, 0] ∧ win0_7.index t = ![0, 0] ∧ win0_8.index t = ![t.val / 4, t.val % 4, 0] :=
  (by decide +kernel : ∀ t : Fin grid0.N, _)

/-- The inputs' blocks at point `t`, on the argument arrays. -/
theorem blocks (c : Dev nD) (t : Fin cfg0.N) : Blocks (iblk m c 0 t) (iblk m c 1 t) (iblk m c 2 t) (iblk m c 3 t) (iblk m c 4 t) (iblk m c 5 t)
    (iblk m c 6 t) (iblk m c 7 t) (A0 m c) (A1 m c) (A2 m c) (A3 m c) (A4 m c) (A5 m c) (A6 m c) (A7 m c) (bOf t) (jOf t) where
  d0 h r x := by unfold bOf jOf; blk_point [iblk, V, idx t]
  d1 h r x := by unfold bOf jOf; blk_point [iblk, V, idx t]
  d2 h r x := by unfold bOf jOf; blk_point [iblk, V, idx t]
  d3 h r x := by unfold bOf jOf; blk_point [iblk, V, idx t]
  d4 h p i x := by unfold bOf jOf; blk_point [iblk, V, idx t]
  d5 h p s x := by unfold bOf jOf; blk_point [iblk, V, idx t]
  d6 r x := by unfold bOf jOf; blk_point [iblk, V, idx t]
  d7 x := by blk_point [iblk, V, idx t]

/-- Between points: the state after some blocks of a sequence, the other scratch and the generator register at anything. -/
def carried (c : Dev nD) (b : Fin 16) (n : ℕ) : sProp 𝕄 :=
  iprop(iprop(owns (c : Thread nD τ) scState fullShare (stAt (A0 m c) (A2 m c) (A4 m c) (A5 m c) b n) ∗ (∃ d, owns (c : Thread nD τ) scOut fullShare d)) ∗ (∃ r, prngReg c r))

/-- The invariant before position `n`: after a point, the state that point leaves. -/
def Phi (c : Dev nD) : (n : ℕ) → n ≤ cfg0.N → sProp 𝕄
  | 0, _ => Pipeline.ΦA spec0 c
  | n + 1, hn => carried m c ⟨n / 4, by have h := lt_of_lt_of_eq hn N_0; omega⟩ (n % 4 + 1)

theorem Phi_next (c : Dev nD) (n : ℕ) (hn : n ≤ cfg0.N) (h : n % 4 ≠ 0) (hb : n / 4 < 16) : Phi m c n hn = carried m c ⟨n / 4, hb⟩ (n % 4) := by
  cases n with
  | zero => exact absurd rfl h
  | succ k => exact congr (congrArg (carried m c) (Fin.ext (show k / 4 = (k + 1) / 4 by omega))) (show k % 4 + 1 = (k + 1) % 4 by omega)

theorem Phi_zero (c : Dev nD) (n : ℕ) (hn : n ≤ cfg0.N) (h : n = 0) : Phi m c n hn = Pipeline.ΦA spec0 c := by
  subst h; rfl

theorem Phi_pos (c : Dev nD) (n : ℕ) (hn : n ≤ cfg0.N) (h : n ≠ 0) (hb : (n - 1) / 4 < 16) : Phi m c n hn = carried m c ⟨(n - 1) / 4, hb⟩ ((n - 1) % 4 + 1) := by
  cases n with
  | zero => exact absurd rfl h
  | succ k => rfl

theorem Phi_forget (c : Dev nD) (n : ℕ) (hn : n ≤ cfg0.N) : Phi m c n hn ⊢ Pipeline.ΦA spec0 c := by
  cases n with
  | zero => exact .rfl
  | succ k =>
    unfold Phi carried
    rw [scratch_eq]
    iintro ⟨⟨HS0, HS1⟩, Hg⟩
    isplitl [HS0 HS1]
    · isplitl [HS0]
      · iexists _; iexact HS0
      iexact HS1
    iexact Hg

/-- The proof data of the call on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => resAt (A0 m c) (A1 m c) (A2 m c) (A3 m c) (A4 m c) (A5 m c) (A6 m c) (A7 m c) (bOf t) (jOf t)
  Φ t := Phi m c t.val (Nat.le_of_lt_succ t.isLt)
  q _ := fullShare
  owed _ := 0

theorem dats_A (c : Dev nD) (w : Fin cfg0.W) : (dats m 0 c).A w = V m c (Pipeline.arrRef spec0 w) := by
  dsimp only [dats]
theorem left0 (c : Dev nD) (t : Fin cfg0.N) : (dats m 0 c).after 0 t = iblk m c 0 t := by dsimp only [dats]
theorem found0 (c : Dev nD) (t : Fin cfg0.N) (d) : (dats m 0 c).before 0 t d = iblk m c 0 t :=
  before0_0_of m (dats m 0 c) (dats_A m c 0) (left0 m c) t d
theorem left1 (c : Dev nD) (t : Fin cfg0.N) : (dats m 0 c).after 1 t = iblk m c 1 t := by dsimp only [dats]
theorem found1 (c : Dev nD) (t : Fin cfg0.N) (d) : (dats m 0 c).before 1 t d = iblk m c 1 t :=
  before0_1_of m (dats m 0 c) (dats_A m c 1) (left1 m c) t d
theorem left2 (c : Dev nD) (t : Fin cfg0.N) : (dats m 0 c).after 2 t = iblk m c 2 t := by dsimp only [dats]
theorem found2 (c : Dev nD) (t : Fin cfg0.N) (d) : (dats m 0 c).before 2 t d = iblk m c 2 t :=
  before0_2_of m (dats m 0 c) (dats_A m c 2) (left2 m c) t d
theorem left3 (c : Dev nD) (t : Fin cfg0.N) : (dats m 0 c).after 3 t = iblk m c 3 t := by dsimp only [dats]
theorem found3 (c : Dev nD) (t : Fin cfg0.N) (d) : (dats m 0 c).before 3 t d = iblk m c 3 t :=
  before0_3_of m (dats m 0 c) (dats_A m c 3) (left3 m c) t d
theorem left4 (c : Dev nD) (t : Fin cfg0.N) : (dats m 0 c).after 4 t = iblk m c 4 t := by dsimp only [dats]
theorem found4 (c : Dev nD) (t : Fin cfg0.N) (d) : (dats m 0 c).before 4 t d = iblk m c 4 t :=
  before0_4_of m (dats m 0 c) (dats_A m c 4) (left4 m c) t d
theorem left5 (c : Dev nD) (t : Fin cfg0.N) : (dats m 0 c).after 5 t = iblk m c 5 t := by dsimp only [dats]
theorem found5 (c : Dev nD) (t : Fin cfg0.N) (d) : (dats m 0 c).before 5 t d = iblk m c 5 t :=
  before0_5_of m (dats m 0 c) (dats_A m c 5) (left5 m c) t d
theorem left6 (c : Dev nD) (t : Fin cfg0.N) : (dats m 0 c).after 6 t = iblk m c 6 t := by dsimp only [dats]
theorem found6 (c : Dev nD) (t : Fin cfg0.N) (d) : (dats m 0 c).before 6 t d = iblk m c 6 t :=
  before0_6_of m (dats m 0 c) (dats_A m c 6) (left6 m c) t d
theorem left7 (c : Dev nD) (t : Fin cfg0.N) : (dats m 0 c).after 7 t = iblk m c 7 t := by dsimp only [dats]
theorem found7 (c : Dev nD) (t : Fin cfg0.N) (d) : (dats m 0 c).before 7 t d = iblk m c 7 t :=
  before0_7_of m (dats m 0 c) (dats_A m c 7) (left7 m c) t d
theorem left8 (c : Dev nD) (t : Fin cfg0.N) : (dats m 0 c).after 8 t = resAt (A0 m c) (A1 m c) (A2 m c) (A3 m c) (A4 m c) (A5 m c) (A6 m c) (A7 m c) (bOf t) (jOf t) := by dsimp only [dats]

/-- What the body is called with at point `t`. -/
def given (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d)))

/-- What the body gives back at point `t`. -/
def returned (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t))

set_option maxHeartbeats 6400000 in
/-- The body at any point, from what it is called with to what it gives back. -/
theorem sound (c : Dev nD) (t : Fin cfg0.N) :
    given m c t ⊢ wp frame (wpE (defs₀ (F := Ideal)) Variants.none c none) Set.univ (bodyAt0 t) (fun _ => returned m c t) := by
  unfold given returned bodyAt0
  simp only [found0, found1, found2, found3, found4, found5, found6, found7]
  rw [show (dats m 0 c).owesAt () t.succ = (dats m 0 c).owesAt () t.castSucc from rfl,
    left0, left1, left2, left3, left4, left5, left6, left7, left8]
  rw [show (dats m 0 c).Φ t.castSucc = Phi m c t.val t.isLt.le from rfl, show (dats m 0 c).Φ t.succ = carried m c (bOf t) ((jOf t).val + 1) from rfl]
  have hN := lt_of_lt_of_eq t.isLt N_0
  by_cases h0 : t.val % 4 = 0
  · by_cases hz : t.val = 0
    · rw [Phi_zero m c t.val _ hz, scratch_eq]
      unfold carried
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_first c (grid0.coords t) _ (hbuf0 t) _ (hbuf1 t) _ (hbuf2 t) _ (hbuf3 t) _ (hbuf4 t) _ (hbuf5 t) _ (hbuf6 t) _ (hbuf7 t) _ (hbuf8 t) _ (Memref.isWhole_whole _) _ (Memref.isWhole_whole _) (blocks m c t) ((clears_iff t).mpr h0) h0 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Phi_pos m c t.val _ hz (by omega)]
      unfold carried
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_first c (grid0.coords t) _ (hbuf0 t) _ (hbuf1 t) _ (hbuf2 t) _ (hbuf3 t) _ (hbuf4 t) _ (hbuf5 t) _ (hbuf6 t) _ (hbuf7 t) _ (hbuf8 t) _ (Memref.isWhole_whole _) _ (Memref.isWhole_whole _) (blocks m c t) ((clears_iff t).mpr h0) h0 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      isplitl [HS1]; · iexact HS1
      iintro ⟨H0, H1, H2, H3, H4, H5, H6, H7, H8, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · rw [Phi_next m c t.val _ h0 (by omega), show carried m c ⟨t.val / 4, by omega⟩ (t.val % 4) = carried m c (bOf t) (jOf t).val from rfl]
    unfold carried
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_next c (grid0.coords t) _ (hbuf0 t) _ (hbuf1 t) _ (hbuf2 t) _ (hbuf3 t) _ (hbuf4 t) _ (hbuf5 t) _ (hbuf6 t) _ (hbuf7 t) _ (hbuf8 t) _ (Memref.isWhole_whole _) _ (Memref.isWhole_whole _) (blocks m c t) (fun h => h0 ((clears_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at point `t` is the printed body on that point's buffers. -/
theorem row (t : Fin cfg0.N) : defs₀ (F := Ideal) .tc cfg0.body (cfg0.bodyArgs t (cfg0.slots t)) = bodyAt0 t := by
  unfold defs₀; rw [Defs.onTc_tc]

/-- The library's body obligation. -/
theorem obligation (c : Dev nD) : BodyObligation (dats m 0 c) (defs₀ (F := Ideal)) Variants.none () Set.univ := fun t => by
  rw [bigSep_W0, bigSep_W0, row]
  exact triple_restated (sound m c t) rfl .rfl fun _ => .rfl

theorem left_over (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl]
  exact Phi_forget m c _ _

set_option backward.isDefEq.respectTransparency.types false in
/-- The launch: it terminates with every array at its last tiles and every counter at zero. -/
theorem launch : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m)
    (hin := fun _ => .rfl) (hout := left_over m)

/-- The run, without the counters. -/
theorem run_main : θ_run defs (onTc (τ := τ) (main (F := Ideal))) (s₀ m ρ) (Pipeline.FramePost cfgs (dats m) 0 (V m)) :=
  (θ_run defs _ _).mono (fun _ h => h.1) (launch m ρ)

/-- The frame: every argument array ends as it began, and every semaphore counter ends at zero. -/
theorem frame : θ_run defs (onTc (τ := τ) (main (F := Ideal))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (dats_A m) (run_main m ρ)) ((θ_run defs _ _).mono (fun _ h => h.2) (launch m ρ))

/-- The result array, as a function of the arguments. -/
def gatedAt (c : Dev nD) : (⟨S16x2048x1024, .bf16⟩ : BufTy).Contents (Elt Ideal) := fun i =>
  RES (A0 m c) (A1 m c) (A2 m c) (A3 m c) (A4 m c) (A5 m c) (i 0) (A6 m c) (A7 m c) (i 1) (i 2)

theorem point (c : Dev nD) (t : Fin cfg0.N) (y : S1x512x1024.Idx) :
    resAt (A0 m c) (A1 m c) (A2 m c) (A3 m c) (A4 m c) (A5 m c) (A6 m c) (A7 m c) (bOf t) (jOf t) y = gatedAt m c (((cfg0.win 8).blk t).view.emb y) := by
  have h0 : (y 0).val < 1 := (y 0).isLt
  have hi : win0_8.index t = ![t.val / 4, t.val % 4, 0] := (idx t).2.2.2.2.2.2.2.2
  have e0 : (((cfg0.win 8).blk t).view.emb y 0).val = t.val / 4 := by
    show win0_8.index t 0 * 1 + 1 * (y 0).val = _
    rw [hi]
    show t.val / 4 * 1 + 1 * (y 0).val = _
    omega
  have e1 : (((cfg0.win 8).blk t).view.emb y 1).val = 512 * (t.val % 4) + (y 1).val := by
    show win0_8.index t 1 * 512 + 1 * (y 1).val = _
    rw [hi]
    show t.val % 4 * 512 + 1 * (y 1).val = _
    omega
  have e2 : (((cfg0.win 8).blk t).view.emb y 2).val = (y 2).val := by
    show win0_8.index t 2 * 1024 + 1 * (y 2).val = _
    rw [hi]
    show 0 * 1024 + 1 * (y 2).val = _
    omega
  show RES (A0 m c) (A1 m c) (A2 m c) (A3 m c) (A4 m c) (A5 m c) (bOf t) (A6 m c) (A7 m c) ⟨512 * (jOf t).val + (y 1).val, _⟩ (y 2) = RES (A0 m c) (A1 m c) (A2 m c) (A3 m c) (A4 m c) (A5 m c) _ (A6 m c) (A7 m c) _ _
  rw [show (((cfg0.win 8).blk t).view.emb y 0 : Fin 16) = bOf t from Fin.ext e0]
  exact congr (congrArg _ (Fin.ext e1.symm)) (Fin.ext e2.symm)

/-- The result array after the run. -/
theorem final (c : Dev nD) : (dats m 0 c).arrAt 8 cfg0.N = gatedAt m c := by
  refine (dats m 0 c).arrAt_eq_of_covers 8 _ (by decide +kernel) fun t _ y => ?_
  blk_simp
  rw [left8]
  exact point m c t y

end Cert.KernelIdeal.Hand

end
-- ==== Proof.GdnScan.lean ====
module

public import proofs.«01_k».proof.Proof.Gen.ReferenceIdeal.Run
public import proofs.«01_k».proof.Proof.Gen.ReferenceIdeal.Step

@[expose] public section

/-! The run of the gated delta rule's reference, stated over one step of its scan. -/

noncomputable section

namespace Cert.ReferenceIdeal.Scan

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v32_7) = s.main_v32_7
  f_8 : V0 (Proc.devRef .tc main_v32_8) = s.main_v32_8
  f_0 : V0 (Proc.devRef .tc main_v32_0) = s.main_v32_0
  f_1 : V0 (Proc.devRef .tc main_v32_1) = s.main_v32_1
  f_2 : V0 (Proc.devRef .tc main_v32_2) = s.main_v32_2
  f_3 : V0 (Proc.devRef .tc main_v32_3) = s.main_v32_3
  f_4 : V0 (Proc.devRef .tc main_v32_4) = s.main_v32_4
  f_5 : V0 (Proc.devRef .tc main_v32_5) = s.main_v32_5
  n_6 : V0 (Proc.devRef .tc main_v32_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call0_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x16x8x64x128 (V0 (Proc.devRef .tc main_v32_0)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x128_S1x16x8x64x128 : (Proc.devRef .tc main_while0b_call0_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
theorem al_5 (h : Holds V0 s j) : (shapeCast S16x8x64x128 (Host.dynamicSlice S1x16x8x64x128 (V0 (Proc.devRef .tc main_v32_0)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x128_S1x16x8x64x128) shapeCasts_S1x16x8x64x128_S16x8x64x128 : (Proc.devRef .tc main_while0b_v60 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call1_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call1_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x16x8x128x64 (V0 (Proc.devRef .tc main_v32_1)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x128x64_S1x16x8x128x64 : (Proc.devRef .tc main_while0b_call1_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
theorem al_11 (h : Holds V0 s j) : (shapeCast S16x8x128x64 (Host.dynamicSlice S1x16x8x128x64 (V0 (Proc.devRef .tc main_v32_1)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x128x64_S1x16x8x128x64) shapeCasts_S1x16x8x128x64_S16x8x128x64 : (Proc.devRef .tc main_while0b_v61 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call2_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call2_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x16x8x64x128 (V0 (Proc.devRef .tc main_v32_2)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x128_S1x16x8x64x128 : (Proc.devRef .tc main_while0b_call2_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
theorem al_17 (h : Holds V0 s j) : (shapeCast S16x8x64x128 (Host.dynamicSlice S1x16x8x64x128 (V0 (Proc.devRef .tc main_v32_2)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x128_S1x16x8x64x128) shapeCasts_S1x16x8x64x128_S16x8x64x128 : (Proc.devRef .tc main_while0b_v62 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call3_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call3_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x16x8x64x128 (V0 (Proc.devRef .tc main_v32_3)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x128_S1x16x8x64x128 : (Proc.devRef .tc main_while0b_call3_v0 : DevRef τ sig).ty.Contents (Elt F)) = Cert.ReferenceIdeal.Step.b22 j s := by
  unfold Cert.ReferenceIdeal.Step.b22
  rw [← al_18 h, ← al_19 h, ← al_20 h, ← al_21 h, h.f_3, h.n_6]
  try rfl
set_option maxRecDepth 8192 in
theorem al_23 (h : Holds V0 s j) : (shapeCast S16x8x64x128 (Host.dynamicSlice S1x16x8x64x128 (V0 (Proc.devRef .tc main_v32_3)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x128_S1x16x8x64x128) shapeCasts_S1x16x8x64x128_S16x8x64x128 : (Proc.devRef .tc main_while0b_v63 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call4_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x16x8x128 (V0 (Proc.devRef .tc main_v32_4)) (fun k => (((![V0 (Proc.devRef .tc main_v32_6), constantI S_ 32 0#32, constantI S_ 32 0#32, constantI S_ 32 0#32] : Fin 4 → (⟨S_, .i32⟩ : BufTy).Contents (Elt F))) k (Shape.Idx.first h_S_)).toInt) sliceFits_S32x16x8x128_S1x16x8x128 : (Proc.devRef .tc main_while0b_call4_v0 : DevRef τ sig).ty.Contents (Elt F)) = Cert.ReferenceIdeal.Step.b27 j s := by
  unfold Cert.ReferenceIdeal.Step.b27
  rw [← al_24 h, ← al_25 h, ← al_26 h, h.f_4, h.n_6]
  try rfl
set_option maxRecDepth 8192 in
theorem al_28 (h : Holds V0 s j) : (shapeCast S16x8x128 (Host.dynamicSlice S1x16x8x128 (V0 (Proc.devRef .tc main_v32_4)) (fun k => (((![V0 (Proc.devRef .tc main_v32_6), constantI S_ 32 0#32, constantI S_ 32 0#32, constantI S_ 32 0#32] : Fin 4 → (⟨S_, .i32⟩ : BufTy).Contents (Elt F))) k (Shape.Idx.first h_S_)).toInt) sliceFits_S32x16x8x128_S1x16x8x128) shapeCasts_S1x16x8x128_S16x8x128 : (Proc.devRef .tc main_while0b_v64 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (constantI S_ 32 0#32 : (Proc.devRef .tc main_while0b_call5_c : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call5_c_0 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call5_c_1 : DevRef τ sig).ty.Contents (Elt F)) = Cert.ReferenceIdeal.Step.b31 j s := by
  unfold Cert.ReferenceIdeal.Step.b31
  rfl
set_option maxRecDepth 8192 in
theorem al_32 (h : Holds V0 s j) : (constantI S_ 32 0#32 : (Proc.devRef .tc main_while0b_call5_c_2 : DevRef τ sig).ty.Contents (Elt F)) = Cert.ReferenceIdeal.Step.b32 j s := by
  unfold Cert.ReferenceIdeal.Step.b32
  rfl
set_option maxRecDepth 8192 in
theorem al_33 (h : Holds V0 s j) : (Host.dynamicSlice S1x16x8x64x64 (V0 (Proc.devRef .tc main_v32_5)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x64_S1x16x8x64x64 : (Proc.devRef .tc main_while0b_call5_v0 : DevRef τ sig).ty.Contents (Elt F)) = Cert.ReferenceIdeal.Step.b33 j s := by
  unfold Cert.ReferenceIdeal.Step.b33
  rw [← al_29 h, ← al_30 h, ← al_31 h, ← al_32 h, h.f_5, h.n_6]
  try rfl
set_option maxRecDepth 8192 in
theorem al_34 (h : Holds V0 s j) : (shapeCast S16x8x64x64 (Host.dynamicSlice S1x16x8x64x64 (V0 (Proc.devRef .tc main_v32_5)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x64_S1x16x8x64x64) shapeCasts_S1x16x8x64x64_S16x8x64x64 : (Proc.devRef .tc main_while0b_v65 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (Host.dotGeneral dot_S16x8x64x128_S16x8x128x128_S16x8x64x128_3_2_2_3_01_01 none (shapeCast S16x8x64x128 (Host.dynamicSlice S1x16x8x64x128 (V0 (Proc.devRef .tc main_v32_3)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x128_S1x16x8x64x128) shapeCasts_S1x16x8x64x128_S16x8x64x128) (V0 (Proc.devRef .tc main_v32_7)) : (Proc.devRef .tc main_while0b_v66 : DevRef τ sig).ty.Contents (Elt F)) = Cert.ReferenceIdeal.Step.b35 j s := by
  unfold Cert.ReferenceIdeal.Step.b35
  rw [← al_23 h, h.f_7]
  try rfl
set_option maxRecDepth 8192 in
theorem al_36 (h : Holds V0 s j) : (res_main_while0b_v67 V0 : (Proc.devRef .tc main_while0b_v67 : DevRef τ sig).ty.Contents (Elt F)) = Cert.ReferenceIdeal.Step.b36 j s := by
  unfold res_main_while0b_v67 Cert.ReferenceIdeal.Step.b36
  rw [← al_17 h, ← al_35 h]
  try rfl
set_option maxRecDepth 8192 in
theorem al_37 (h : Holds V0 s j) : (Host.dotGeneral dot_S16x8x64x128_S16x8x128x128_S16x8x64x128_3_2_2_3_01_01 none (shapeCast S16x8x64x128 (Host.dynamicSlice S1x16x8x64x128 (V0 (Proc.devRef .tc main_v32_0)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x128_S1x16x8x64x128) shapeCasts_S1x16x8x64x128_S16x8x64x128) (V0 (Proc.devRef .tc main_v32_7)) : (Proc.devRef .tc main_while0b_v68 : DevRef τ sig).ty.Contents (Elt F)) = Cert.ReferenceIdeal.Step.b37 j s := by
  unfold Cert.ReferenceIdeal.Step.b37
  rw [← al_5 h, h.f_7]
  try rfl
set_option maxRecDepth 8192 in
theorem al_38 (h : Holds V0 s j) : (Host.dotGeneral dot_S16x8x64x64_S16x8x64x128_S16x8x64x128_3_2_2_3_01_01 none (shapeCast S16x8x64x64 (Host.dynamicSlice S1x16x8x64x64 (V0 (Proc.devRef .tc main_v32_5)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x64_S1x16x8x64x64) shapeCasts_S1x16x8x64x64_S16x8x64x64) (res_main_while0b_v67 V0) : (Proc.devRef .tc main_while0b_v69 : DevRef τ sig).ty.Contents (Elt F)) = Cert.ReferenceIdeal.Step.b38 j s := by
  unfold Cert.ReferenceIdeal.Step.b38
  rw [← al_34 h, ← al_36 h]
  try rfl
set_option maxRecDepth 8192 in
theorem al_39 (h : Holds V0 s j) : (addf (Host.dotGeneral dot_S16x8x64x128_S16x8x128x128_S16x8x64x128_3_2_2_3_01_01 none (shapeCast S16x8x64x128 (Host.dynamicSlice S1x16x8x64x128 (V0 (Proc.devRef .tc main_v32_0)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x128_S1x16x8x64x128) shapeCasts_S1x16x8x64x128_S16x8x64x128) (V0 (Proc.devRef .tc main_v32_7))) (Host.dotGeneral dot_S16x8x64x64_S16x8x64x128_S16x8x64x128_3_2_2_3_01_01 none (shapeCast S16x8x64x64 (Host.dynamicSlice S1x16x8x64x64 (V0 (Proc.devRef .tc main_v32_5)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x64_S1x16x8x64x64) shapeCasts_S1x16x8x64x64_S16x8x64x64) (res_main_while0b_v67 V0)) : (Proc.devRef .tc main_while0b_v70 : DevRef τ sig).ty.Contents (Elt F)) = Cert.ReferenceIdeal.Step.b39 j s := by
  unfold Cert.ReferenceIdeal.Step.b39
  rw [← al_37 h, ← al_38 h]
  try rfl
set_option maxRecDepth 8192 in
theorem al_40 (h : Holds V0 s j) : (broadcastInDim S16x8x1x128 ![0, 1, 3] bcast_S16x8x128_S16x8x1x128_0_1_3 (shapeCast S16x8x128 (Host.dynamicSlice S1x16x8x128 (V0 (Proc.devRef .tc main_v32_4)) (fun k => (((![V0 (Proc.devRef .tc main_v32_6), constantI S_ 32 0#32, constantI S_ 32 0#32, constantI S_ 32 0#32] : Fin 4 → (⟨S_, .i32⟩ : BufTy).Contents (Elt F))) k (Shape.Idx.first h_S_)).toInt) sliceFits_S32x16x8x128_S1x16x8x128) shapeCasts_S1x16x8x128_S16x8x128) : (Proc.devRef .tc main_while0b_v71 : DevRef τ sig).ty.Contents (Elt F)) = Cert.ReferenceIdeal.Step.b40 j s := by
  unfold Cert.ReferenceIdeal.Step.b40
  rw [← al_28 h]
  try rfl
set_option maxRecDepth 8192 in
theorem al_41 (h : Holds V0 s j) : (broadcastInDim S16x8x128x128 ![0, 1, 2, 3] bcast_S16x8x1x128_S16x8x128x128_0_1_2_3 (broadcastInDim S16x8x1x128 ![0, 1, 3] bcast_S16x8x128_S16x8x1x128_0_1_3 (shapeCast S16x8x128 (Host.dynamicSlice S1x16x8x128 (V0 (Proc.devRef .tc main_v32_4)) (fun k => (((![V0 (Proc.devRef .tc main_v32_6), constantI S_ 32 0#32, constantI S_ 32 0#32, constantI S_ 32 0#32] : Fin 4 → (⟨S_, .i32⟩ : BufTy).Contents (Elt F))) k (Shape.Idx.first h_S_)).toInt) sliceFits_S32x16x8x128_S1x16x8x128) shapeCasts_S1x16x8x128_S16x8x128)) : (Proc.devRef .tc main_while0b_v72 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (mulf (V0 (Proc.devRef .tc main_v32_7)) (broadcastInDim S16x8x128x128 ![0, 1, 2, 3] bcast_S16x8x1x128_S16x8x128x128_0_1_2_3 (broadcastInDim S16x8x1x128 ![0, 1, 3] bcast_S16x8x128_S16x8x1x128_0_1_3 (shapeCast S16x8x128 (Host.dynamicSlice S1x16x8x128 (V0 (Proc.devRef .tc main_v32_4)) (fun k => (((![V0 (Proc.devRef .tc main_v32_6), constantI S_ 32 0#32, constantI S_ 32 0#32, constantI S_ 32 0#32] : Fin 4 → (⟨S_, .i32⟩ : BufTy).Contents (Elt F))) k (Shape.Idx.first h_S_)).toInt) sliceFits_S32x16x8x128_S1x16x8x128) shapeCasts_S1x16x8x128_S16x8x128))) : (Proc.devRef .tc main_while0b_v73 : DevRef τ sig).ty.Contents (Elt F)) = Cert.ReferenceIdeal.Step.b42 j s := by
  unfold Cert.ReferenceIdeal.Step.b42
  rw [← al_41 h, h.f_7]
  try rfl
set_option maxRecDepth 8192 in
theorem al_43 (h : Holds V0 s j) : (Host.dotGeneral dot_S16x8x128x64_S16x8x64x128_S16x8x128x128_3_2_2_3_01_01 none (shapeCast S16x8x128x64 (Host.dynamicSlice S1x16x8x128x64 (V0 (Proc.devRef .tc main_v32_1)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x128x64_S1x16x8x128x64) shapeCasts_S1x16x8x128x64_S16x8x128x64) (res_main_while0b_v67 V0) : (Proc.devRef .tc main_while0b_v74 : DevRef τ sig).ty.Contents (Elt F)) = Cert.ReferenceIdeal.Step.b43 j s := by
  unfold Cert.ReferenceIdeal.Step.b43
  rw [← al_11 h, ← al_36 h]
  try rfl
set_option maxRecDepth 8192 in
theorem al_44 (h : Holds V0 s j) : (addf (mulf (V0 (Proc.devRef .tc main_v32_7)) (broadcastInDim S16x8x128x128 ![0, 1, 2, 3] bcast_S16x8x1x128_S16x8x128x128_0_1_2_3 (broadcastInDim S16x8x1x128 ![0, 1, 3] bcast_S16x8x128_S16x8x1x128_0_1_3 (shapeCast S16x8x128 (Host.dynamicSlice S1x16x8x128 (V0 (Proc.devRef .tc main_v32_4)) (fun k => (((![V0 (Proc.devRef .tc main_v32_6), constantI S_ 32 0#32, constantI S_ 32 0#32, constantI S_ 32 0#32] : Fin 4 → (⟨S_, .i32⟩ : BufTy).Contents (Elt F))) k (Shape.Idx.first h_S_)).toInt) sliceFits_S32x16x8x128_S1x16x8x128) shapeCasts_S1x16x8x128_S16x8x128)))) (Host.dotGeneral dot_S16x8x128x64_S16x8x64x128_S16x8x128x128_3_2_2_3_01_01 none (shapeCast S16x8x128x64 (Host.dynamicSlice S1x16x8x128x64 (V0 (Proc.devRef .tc main_v32_1)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x128x64_S1x16x8x128x64) shapeCasts_S1x16x8x128x64_S16x8x128x64) (res_main_while0b_v67 V0)) : (Proc.devRef .tc main_while0b_v75 : DevRef τ sig).ty.Contents (Elt F)) = Cert.ReferenceIdeal.Step.b44 j s := by
  unfold Cert.ReferenceIdeal.Step.b44
  rw [← al_42 h, ← al_43 h]
  try rfl
set_option maxRecDepth 8192 in
theorem al_45 (h : Holds V0 s j) : (broadcastInDim S1x16x8x64x128 ![1, 2, 3, 4] bcast_S16x8x64x128_S1x16x8x64x128_1_2_3_4 (addf (Host.dotGeneral dot_S16x8x64x128_S16x8x128x128_S16x8x64x128_3_2_2_3_01_01 none (shapeCast S16x8x64x128 (Host.dynamicSlice S1x16x8x64x128 (V0 (Proc.devRef .tc main_v32_0)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x128_S1x16x8x64x128) shapeCasts_S1x16x8x64x128_S16x8x64x128) (V0 (Proc.devRef .tc main_v32_7))) (Host.dotGeneral dot_S16x8x64x64_S16x8x64x128_S16x8x64x128_3_2_2_3_01_01 none (shapeCast S16x8x64x64 (Host.dynamicSlice S1x16x8x64x64 (V0 (Proc.devRef .tc main_v32_5)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x64_S1x16x8x64x64) shapeCasts_S1x16x8x64x64_S16x8x64x64) (res_main_while0b_v67 V0))) : (Proc.devRef .tc main_while0b_call6_v0 : DevRef τ sig).ty.Contents (Elt F)) = Cert.ReferenceIdeal.Step.b45 j s := by
  unfold Cert.ReferenceIdeal.Step.b45
  rw [← al_39 h]
  try rfl
set_option maxRecDepth 8192 in
theorem al_46 (h : Holds V0 s j) : (constantI S_ 32 0#32 : (Proc.devRef .tc main_while0b_call6_c : DevRef τ sig).ty.Contents (Elt F)) = Cert.ReferenceIdeal.Step.b46 j s := by
  unfold Cert.ReferenceIdeal.Step.b46
  rfl
set_option maxRecDepth 8192 in
theorem al_47 (h : Holds V0 s j) : (constantI S_ 32 0#32 : (Proc.devRef .tc main_while0b_call6_c_0 : DevRef τ sig).ty.Contents (Elt F)) = Cert.ReferenceIdeal.Step.b47 j s := by
  unfold Cert.ReferenceIdeal.Step.b47
  rfl
set_option maxRecDepth 8192 in
theorem al_48 (h : Holds V0 s j) : (constantI S_ 32 0#32 : (Proc.devRef .tc main_while0b_call6_c_1 : DevRef τ sig).ty.Contents (Elt F)) = Cert.ReferenceIdeal.Step.b48 j s := by
  unfold Cert.ReferenceIdeal.Step.b48
  rfl
set_option maxRecDepth 8192 in
theorem al_49 (h : Holds V0 s j) : (constantI S_ 32 0#32 : (Proc.devRef .tc main_while0b_call6_c_2 : DevRef τ sig).ty.Contents (Elt F)) = Cert.ReferenceIdeal.Step.b49 j s := by
  unfold Cert.ReferenceIdeal.Step.b49
  rfl
set_option maxRecDepth 8192 in
theorem al_50 (h : Holds V0 s j) : (Host.dynamicUpdateSlice (V0 (Proc.devRef .tc main_v32_8)) (broadcastInDim S1x16x8x64x128 ![1, 2, 3, 4] bcast_S16x8x64x128_S1x16x8x64x128_1_2_3_4 (addf (Host.dotGeneral dot_S16x8x64x128_S16x8x128x128_S16x8x64x128_3_2_2_3_01_01 none (shapeCast S16x8x64x128 (Host.dynamicSlice S1x16x8x64x128 (V0 (Proc.devRef .tc main_v32_0)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x128_S1x16x8x64x128) shapeCasts_S1x16x8x64x128_S16x8x64x128) (V0 (Proc.devRef .tc main_v32_7))) (Host.dotGeneral dot_S16x8x64x64_S16x8x64x128_S16x8x64x128_3_2_2_3_01_01 none (shapeCast S16x8x64x64 (Host.dynamicSlice S1x16x8x64x64 (V0 (Proc.devRef .tc main_v32_5)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x64_S1x16x8x64x64) shapeCasts_S1x16x8x64x64_S16x8x64x64) (res_main_while0b_v67 V0)))) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) updateFits_S32x16x8x64x128_S1x16x8x64x128 : (Proc.devRef .tc main_while0b_v76 : DevRef τ sig).ty.Contents (Elt F)) = Cert.ReferenceIdeal.Step.b50 j s := by
  unfold Cert.ReferenceIdeal.Step.b50
  rw [← al_45 h, ← al_46 h, ← al_47 h, ← al_48 h, ← al_49 h, h.f_8, h.n_6]
  try rfl

/-! One trip's step of the carried values is `step`, field by field; a counter steps to the next number. -/

theorem step_7 (h : Holds V0 s j) : step_main_v32_7 V0 = (step j s).main_v32_7 := by
  unfold step_main_v32_7 Cert.ReferenceIdeal.Step.step
  show id (addf (mulf (V0 (Proc.devRef .tc main_v32_7)) (broadcastInDim S16x8x128x128 ![0, 1, 2, 3] bcast_S16x8x1x128_S16x8x128x128_0_1_2_3 (broadcastInDim S16x8x1x128 ![0, 1, 3] bcast_S16x8x128_S16x8x1x128_0_1_3 (shapeCast S16x8x128 (Host.dynamicSlice S1x16x8x128 (V0 (Proc.devRef .tc main_v32_4)) (fun k => (((![V0 (Proc.devRef .tc main_v32_6), constantI S_ 32 0#32, constantI S_ 32 0#32, constantI S_ 32 0#32] : Fin 4 → (⟨S_, .i32⟩ : BufTy).Contents (Elt F))) k (Shape.Idx.first h_S_)).toInt) sliceFits_S32x16x8x128_S1x16x8x128) shapeCasts_S1x16x8x128_S16x8x128)))) (Host.dotGeneral dot_S16x8x128x64_S16x8x64x128_S16x8x128x128_3_2_2_3_01_01 none (shapeCast S16x8x128x64 (Host.dynamicSlice S1x16x8x128x64 (V0 (Proc.devRef .tc main_v32_1)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x128x64_S1x16x8x128x64) shapeCasts_S1x16x8x128x64_S16x8x128x64) (res_main_while0b_v67 V0))) = _
  rw [al_44 h]
  try rfl
theorem step_8 (h : Holds V0 s j) : step_main_v32_8 V0 = (step j s).main_v32_8 := by
  unfold step_main_v32_8 Cert.ReferenceIdeal.Step.step
  show id (Host.dynamicUpdateSlice (V0 (Proc.devRef .tc main_v32_8)) (broadcastInDim S1x16x8x64x128 ![1, 2, 3, 4] bcast_S16x8x64x128_S1x16x8x64x128_1_2_3_4 (addf (Host.dotGeneral dot_S16x8x64x128_S16x8x128x128_S16x8x64x128_3_2_2_3_01_01 none (shapeCast S16x8x64x128 (Host.dynamicSlice S1x16x8x64x128 (V0 (Proc.devRef .tc main_v32_0)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x128_S1x16x8x64x128) shapeCasts_S1x16x8x64x128_S16x8x64x128) (V0 (Proc.devRef .tc main_v32_7))) (Host.dotGeneral dot_S16x8x64x64_S16x8x64x128_S16x8x64x128_3_2_2_3_01_01 none (shapeCast S16x8x64x64 (Host.dynamicSlice S1x16x8x64x64 (V0 (Proc.devRef .tc main_v32_5)) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) sliceFits_S32x16x8x64x64_S1x16x8x64x64) shapeCasts_S1x16x8x64x64_S16x8x64x64) (res_main_while0b_v67 V0)))) (fun k => (((![V0 (Proc.devRef .tc main_v32_6), constantI S_ 32 0#32, constantI S_ 32 0#32, constantI S_ 32 0#32, constantI S_ 32 0#32] : Fin 5 → (⟨S_, .i32⟩ : BufTy).Contents (Elt F))) k (Shape.Idx.first h_S_)).toInt) updateFits_S32x16x8x64x128_S1x16x8x64x128) = _
  exact al_50 h
theorem step_6 (h : Holds V0 s j) : step_main_v32_6 V0 = constantI S_ 32 (BitVec.ofNat 32 (j + 1)) := by
  unfold step_main_v32_6
  rw [h.n_6]
  funext i
  show BitVec.ofNat 32 j + 1#32 = BitVec.ofNat 32 (j + 1)
  simp only [BitVec.ofNat_add]

set_option maxRecDepth 8192 in
theorem out_main_v59_holds (h : Holds V0 s j) {x_main_arg6 : (⟨S16x2048x5120, .f32⟩ : BufTy).Contents (Elt F)} (h_main_arg6 : V0 (Proc.devRef .tc main_arg6) = x_main_arg6) {x_main_arg7 : (⟨S128, .f32⟩ : BufTy).Contents (Elt F)} (h_main_arg7 : V0 (Proc.devRef .tc main_arg7) = x_main_arg7) : out_main_v59 V0 = Cert.ReferenceIdeal.Step.R_main_v59 s x_main_arg6 x_main_arg7 := by
  unfold out_main_v59 Cert.ReferenceIdeal.Step.R_main_v59
  rw [h.f_8, h_main_arg6, h_main_arg7]
  try rfl

/-- One trip keeps the valuation holding: `step` of the state, the same set-up values, the next number. -/
theorem holds_step (h : Holds V0 s j) : Holds (STEP V0) (step j s) (j + 1) where
  f_7 := (STEP_main_v32_7 V0).trans (step_7 h)
  f_8 := (STEP_main_v32_8 V0).trans (step_8 h)
  n_6 := (STEP_main_v32_6 V0).trans (step_6 h)
  f_0 := (STEP_main_v32_0 V0).trans h.f_0
  f_1 := (STEP_main_v32_1 V0).trans h.f_1
  f_2 := (STEP_main_v32_2 V0).trans h.f_2
  f_3 := (STEP_main_v32_3 V0).trans h.f_3
  f_4 := (STEP_main_v32_4 V0).trans h.f_4
  f_5 := (STEP_main_v32_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v59) = Cert.ReferenceIdeal.Step.R_main_v59 (it c 32) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 32
    ⟨(h c).1.trans (out_main_v59_holds hk (iter_main_arg6 m c 32) (iter_main_arg7 m c 32)), (h c).2.1, (h c).2.2.1, (h c).2.2.2.1, (h c).2.2.2.2.1, (h c).2.2.2.2.2.1, (h c).2.2.2.2.2.2.1, (h c).2.2.2.2.2.2.2.1, (h c).2.2.2.2.2.2.2.2⟩) (Value.run m ρ)

end Cert.ReferenceIdeal.Scan

end
-- ==== Proof.GdnRef.lean ====
module

public import proofs.«01_k».proof.Proof.GdnScan
public import proofs.«01_k».proof.Proof.GdnSpec
public import Idealize.ShloMosaic.Lib.Pointwise
public import Idealize.ShloMosaic.Lib.WordCmp

@[expose] public section

/-! What the reference computes: its loop's states, chunk by chunk, and its result. -/

set_option maxRecDepth 16384

noncomputable section

namespace Cert.ReferenceIdeal.Hand

open Idealize.ShloMosaic Idealize.ShloMosaic.TcCoe
open Cert.ReferenceIdeal Cert.ReferenceIdeal.Gen Cert.ReferenceIdeal.Step
open Cert.Gdn WordCmp

section Slices
variable (s : State Ideal) (n : Fin 32) (b : Fin 16) (h : Fin 8)

/-- A start of the loop's slices: the trip on the first axis. -/
theorem start_trip : (BitVec.ofNat 32 n.val).toInt = (n.val : ℤ) := toInt_ofNat_of_lt (by omega)

/-- The trip on the first of five axes. -/
abbrev off5 : Fin 5 → ℕ := ![n.val, 0, 0, 0, 0]
/-- The trip on the first of four axes. -/
abbrev off4 : Fin 4 → ℕ := ![n.val, 0, 0, 0]

theorem fits_kv : S32x16x8x64x128.Slices (off5 n) S1x16x8x64x128 := ⟨rfl, fun a => by
  fin_cases a
  · show n.val + 1 ≤ 32
    omega
  all_goals (show 0 + _ ≤ _; simp)⟩
theorem fits_vk : S32x16x8x128x64.Slices (off5 n) S1x16x8x128x64 := ⟨rfl, fun a => by
  fin_cases a
  · show n.val + 1 ≤ 32
    omega
  all_goals (show 0 + _ ≤ _; simp)⟩
theorem fits_kk : S32x16x8x64x64.Slices (off5 n) S1x16x8x64x64 := ⟨rfl, fun a => by
  fin_cases a
  · show n.val + 1 ≤ 32
    omega
  all_goals (show 0 + _ ≤ _; simp)⟩
theorem fits_e : S32x16x8x128.Slices (off4 n) S1x16x8x128 := ⟨rfl, fun a => by
  fin_cases a
  · show n.val + 1 ≤ 32
    omega
  all_goals (show 0 + _ ≤ _; simp)⟩

theorem b4_at (i : Fin 64) (j : Fin 128) : b4 n.val s (ix5 0 b h i j) = s.main_v32_0 (ix5 n b h i j) := by
  refine (congrFun (dynamicSlice_eq_extract _ s.main_v32_0 _ _ (off5 n) (fits_kv n)
    (fun a => by fin_cases a <;> first | exact start_trip n | rfl)) (ix5 0 b h i j)).trans ?_
  pointwise []

theorem b10_at (i : Fin 128) (j : Fin 64) : b10 n.val s (ix5 0 b h i j) = s.main_v32_1 (ix5 n b h i j) := by
  refine (congrFun (dynamicSlice_eq_extract _ s.main_v32_1 _ _ (off5 n) (fits_vk n)
    (fun a => by fin_cases a <;> first | exact start_trip n | rfl)) (ix5 0 b h i j)).trans ?_
  pointwise []

theorem b16_at (i : Fin 64) (j : Fin 128) : b16 n.val s (ix5 0 b h i j) = s.main_v32_2 (ix5 n b h i j) := by
  refine (congrFun (dynamicSlice_eq_extract _ s.main_v32_2 _ _ (off5 n) (fits_kv n)
    (fun a => by fin_cases a <;> first | exact start_trip n | rfl)) (ix5 0 b h i j)).trans ?_
  pointwise []

theorem b22_at (i : Fin 64) (j : Fin 128) : b22 n.val s (ix5 0 b h i j) = s.main_v32_3 (ix5 n b h i j) := by
  refine (congrFun (dynamicSlice_eq_extract _ s.main_v32_3 _ _ (off5 n) (fits_kv n)
    (fun a => by fin_cases a <;> first | exact start_trip n | rfl)) (ix5 0 b h i j)).trans ?_
  pointwise []

theorem b27_at (j : Fin 128) : b27 n.val s (ix4 0 b h j) = s.main_v32_4 (ix4 n b h j) := by
  refine (congrFun (dynamicSlice_eq_extract _ s.main_v32_4 _ _ (off4 n) (fits_e n)
    (fun a => by fin_cases a <;> first | exact start_trip n | rfl)) (ix4 0 b h j)).trans ?_
  pointwise []

theorem b33_at (i j : Fin 64) : b33 n.val s (ix5 0 b h i j) = s.main_v32_5 (ix5 n b h i j) := by
  refine (congrFun (dynamicSlice_eq_extract _ s.main_v32_5 _ _ (off5 n) (fits_kk n)
    (fun a => by fin_cases a <;> first | exact start_trip n | rfl)) (ix5 0 b h i j)).trans ?_
  pointwise []

theorem b44_at (i j : Fin 128) : b44 n.val s (ix4 b h i j)
    = gStep (fun c k => s.main_v32_3 (ix5 n b h c k)) (fun c k => s.main_v32_2 (ix5 n b h c k)) (fun c k => s.main_v32_1 (ix5 n b h c k))
        (fun k => s.main_v32_4 (ix4 n b h k)) (fun c k => s.main_v32_7 (ix4 b h c k)) i j := by
  pointwise [b44, b42, b43, b41, b40, b28, b11, b36, b17, b35, b23]
  simp only [b10_at, b16_at, b22_at, b27_at]
  rfl

theorem b39_at (i : Fin 64) (j : Fin 128) : b39 n.val s (ix4 b h i j)
    = gOut (fun c k => s.main_v32_0 (ix5 n b h c k)) (fun c k => s.main_v32_3 (ix5 n b h c k)) (fun c k => s.main_v32_2 (ix5 n b h c k))
        (fun c k => s.main_v32_5 (ix5 n b h c k)) (fun c k => s.main_v32_7 (ix4 b h c k)) i j := by
  pointwise [b39, b37, b38, b34, b5, b36, b17, b35, b23]
  simp only [b4_at, b16_at, b22_at, b33_at]
  rfl

theorem b45_at (i : Fin 64) (j : Fin 128) : b45 n.val s (ix5 0 b h i j) = b39 n.val s (ix4 b h i j) := by
  pointwise [b45]

theorem b50_at (q : Fin 32) (i : Fin 64) (j : Fin 128) : b50 n.val s (ix5 q b h i j)
    = if q = n then b39 n.val s (ix4 b h i j) else s.main_v32_8 (ix5 q b h i j) := by
  refine (congrFun (dynamicUpdateSlice_eq_update s.main_v32_8 (b45 n.val s) _ _ (off5 n) (fits_kv n)
    (fun a => by fin_cases a <;> first | exact start_trip n | rfl)) (ix5 q b h i j)).trans ?_
  unfold updateSlice
  split_ifs with hq hn hn
  · subst hn
    refine Eq.trans (congrArg (b45 _ s) ?_) (b45_at s _ b h i j)
    funext a
    fin_cases a
    · exact Fin.ext (show q.val - q.val = 0 by omega)
    all_goals rfl
  · refine absurd (Fin.ext ?_) hn
    have h0 := hq 0
    have h1 : n.val ≤ q.val := h0.1
    have h2 : q.val < n.val + 1 := h0.2
    omega
  · refine absurd (fun a => ?_) hq
    subst hn
    fin_cases a
    · exact ⟨le_refl _, show q.val < q.val + 1 by omega⟩
    · exact ⟨Nat.zero_le _, show b.val < 0 + 16 by omega⟩
    · exact ⟨Nat.zero_le _, show h.val < 0 + 8 by omega⟩
    · exact ⟨Nat.zero_le _, show i.val < 0 + 64 by omega⟩
    · exact ⟨Nat.zero_le _, show j.val < 0 + 128 by omega⟩
  · rfl

end Slices

section Inputs
variable (a0 a1 : (⟨S16x8x2048x128, .bf16⟩ : BufTy).Contents (Elt Ideal)) (a2 : (⟨S16x8x2048x128, .f32⟩ : BufTy).Contents (Elt Ideal))
  (a3 : (⟨S16x8x2048x128, .bf16⟩ : BufTy).Contents (Elt Ideal)) (a4 : (⟨S16x8x16x128x128, .bf16⟩ : BufTy).Contents (Elt Ideal))
  (a5 : (⟨S16x8x32x8x128, .f32⟩ : BufTy).Contents (Elt Ideal)) (n : Fin 32) (b : Fin 16) (h : Fin 8)

theorem v24_at (c : Fin 64) (k : Fin 128) : A_main_v24 a0 a1 a2 a3 a4 a5 (ix5 n b h c k) = cR b h a1 n c k := by
  pointwise [A_main_v24, A_main_v20, A_main_v19]
  unfold cR
  exact congrArg a1 (congrArg (fun z => ix4 b h z k) (Fin.ext (by show n.val * 64 + c.val = 64 * n.val + c.val; omega)))

theorem v26_at (c : Fin 64) (k : Fin 128) : A_main_v26 a0 a1 a2 a3 a4 a5 (ix5 n b h c k) = cR b h a2 n c k := by
  pointwise [A_main_v26, A_main_v21]
  unfold cR
  exact congrArg a2 (congrArg (fun z => ix4 b h z k) (Fin.ext (by show n.val * 64 + c.val = 64 * n.val + c.val; omega)))

theorem v27_at (c : Fin 64) (k : Fin 128) : A_main_v27 a0 a1 a2 a3 a4 a5 (ix5 n b h c k) = cR b h a0 n c k := by
  pointwise [A_main_v27, A_main_v23, A_main_v22]
  unfold cR
  exact congrArg a0 (congrArg (fun z => ix4 b h z k) (Fin.ext (by show n.val * 64 + c.val = 64 * n.val + c.val; omega)))

theorem v28_at (k : Fin 128) : A_main_v28 a0 a1 a2 a3 a4 a5 (ix4 n b h k) = cE a5 b h n k := by
  pointwise [A_main_v28, A_main_v18, A_main_v17]
  rfl

/-! The transposed keys: a pair of chunks split in two halves. -/
theorem v16_at (i : Fin 128) (c : Fin 64) : A_main_v16 a0 a1 a2 a3 a4 a5 (ix5 b h n i c) = A_main_v15 a0 a1 a2 a3 a4 a5 (ix6 b h ⟨n.val / 2, by omega⟩ ⟨n.val % 2, by omega⟩ i c) := by
  pointwise [A_main_v16]

theorem v15_0 (p : Fin 16) (i : Fin 128) (c : Fin 64) : A_main_v15 a0 a1 a2 a3 a4 a5 (ix6 b h p 0 i c) = a4 (ix5 b h p i ⟨c.val, by omega⟩) := by
  pointwise [A_main_v15, A_main_v13, A_main_v11, A_main_v10]

theorem v15_1 (p : Fin 16) (i : Fin 128) (c : Fin 64) : A_main_v15 a0 a1 a2 a3 a4 a5 (ix6 b h p 1 i c) = a4 (ix5 b h p i ⟨64 + c.val, by omega⟩) := by
  pointwise [A_main_v15, A_main_v14, A_main_v12, A_main_v10]

theorem tr25 (x : FVec Ideal S16x8x32x128x64 .f32) (n : Fin 32) (b : Fin 16) (h : Fin 8) (i : Fin 128) (c : Fin 64) :
    transpose S32x16x8x128x64 [2, 0, 1, 3, 4] x transposes_S16x8x32x128x64_S32x16x8x128x64_2_0_1_3_4 (ix5 n b h i c) = x (ix5 b h n i c) := by
  pointwise

theorem v25_tr (i : Fin 128) (c : Fin 64) : A_main_v25 a0 a1 a2 a3 a4 a5 (ix5 n b h i c) = A_main_v16 a0 a1 a2 a3 a4 a5 (ix5 b h n i c) := by
  unfold A_main_v25
  exact tr25 _ n b h i c

theorem v25_at (i : Fin 128) (c : Fin 64) : A_main_v25 a0 a1 a2 a3 a4 a5 (ix5 n b h i c) = cD a4 b h n i c := by
  rw [v25_tr, v16_at]
  unfold cD
  rcases Nat.mod_two_eq_zero_or_one n.val with e | e
  · rw [show (⟨n.val % 2, by omega⟩ : Fin 2) = 0 from Fin.ext e, v15_0]
    exact congrArg a4 (congrArg (ix5 b h _ i) (Fin.ext (by show c.val = 64 * (n.val % 2) + c.val; omega)))
  · rw [show (⟨n.val % 2, by omega⟩ : Fin 2) = 1 from Fin.ext e, v15_1]
    exact congrArg a4 (congrArg (ix5 b h _ i) (Fin.ext (by show 64 + c.val = 64 * (n.val % 2) + c.val; omega)))

/-! The scores: the diagonal blocks of a pair of chunks. -/
theorem v1_at (p : Fin 16) (q : Fin 2) (i : Fin 64) (r : Fin 2) (c : Fin 64) : A_main_v1 a0 a1 a2 a3 a4 a5 (ix7 b h p q i r c)
    = a3 (ix4 b h ⟨128 * p.val + 64 * q.val + i.val, by omega⟩ ⟨64 * r.val + c.val, by omega⟩) := by
  pointwise [A_main_v1, A_main_v0]
  exact congrArg a3 (congr (congrArg (ix4 b h) (Fin.ext (by show p.val * 128 + q.val * 64 + i.val = 128 * p.val + 64 * q.val + i.val; omega)))
    (Fin.ext (by show r.val * 64 + c.val = 64 * r.val + c.val; omega)))

theorem v2_at (p : Fin 16) (i c : Fin 64) : A_main_v2 a0 a1 a2 a3 a4 a5 (ix7 b h p 0 i 0 c) = A_main_v1 a0 a1 a2 a3 a4 a5 (ix7 b h p 0 i 0 c) := by
  pointwise [A_main_v2]

theorem v4_at (p : Fin 16) (i c : Fin 64) : A_main_v4 a0 a1 a2 a3 a4 a5 (ix7 b h p 0 i 0 c) = A_main_v1 a0 a1 a2 a3 a4 a5 (ix7 b h p 1 i 1 c) := by
  pointwise [A_main_v4]

theorem v3_at (p : Fin 16) (i c : Fin 64) : A_main_v3 a0 a1 a2 a3 a4 a5 (ix5 b h p i c) = A_main_v2 a0 a1 a2 a3 a4 a5 (ix7 b h p 0 i 0 c) := by
  pointwise [A_main_v3]

theorem v5_at (p : Fin 16) (i c : Fin 64) : A_main_v5 a0 a1 a2 a3 a4 a5 (ix5 b h p i c) = A_main_v4 a0 a1 a2 a3 a4 a5 (ix7 b h p 0 i 0 c) := by
  pointwise [A_main_v5]

theorem v8_0 (p : Fin 16) (i c : Fin 64) : A_main_v8 a0 a1 a2 a3 a4 a5 (ix6 b h p 0 i c) = A_main_v3 a0 a1 a2 a3 a4 a5 (ix5 b h p i c) := by
  pointwise [A_main_v8, A_main_v6]

theorem v8_1 (p : Fin 16) (i c : Fin 64) : A_main_v8 a0 a1 a2 a3 a4 a5 (ix6 b h p 1 i c) = A_main_v5 a0 a1 a2 a3 a4 a5 (ix5 b h p i c) := by
  pointwise [A_main_v8, A_main_v7]

theorem v9_at (i c : Fin 64) : A_main_v9 a0 a1 a2 a3 a4 a5 (ix5 b h n i c) = A_main_v8 a0 a1 a2 a3 a4 a5 (ix6 b h ⟨n.val / 2, by omega⟩ ⟨n.val % 2, by omega⟩ i c) := by
  pointwise [A_main_v9]

theorem tr29 (x : FVec Ideal S16x8x32x64x64 .f32) (n : Fin 32) (b : Fin 16) (h : Fin 8) (i c : Fin 64) :
    transpose S32x16x8x64x64 [2, 0, 1, 3, 4] x transposes_S16x8x32x64x64_S32x16x8x64x64_2_0_1_3_4 (ix5 n b h i c) = x (ix5 b h n i c) := by
  pointwise

theorem v29_tr (i c : Fin 64) : A_main_v29 a0 a1 a2 a3 a4 a5 (ix5 n b h i c) = A_main_v9 a0 a1 a2 a3 a4 a5 (ix5 b h n i c) := by
  unfold A_main_v29
  exact tr29 _ n b h i c

theorem v29_at (c c' : Fin 64) : A_main_v29 a0 a1 a2 a3 a4 a5 (ix5 n b h c c') = cX a3 b h n c c' := by
  rw [v29_tr, v9_at]
  unfold cX
  rcases Nat.mod_two_eq_zero_or_one n.val with e | e
  · rw [show (⟨n.val % 2, by omega⟩ : Fin 2) = 0 from Fin.ext e, v8_0, v3_at, v2_at, v1_at]
    exact congrArg a3 (congr (congrArg (ix4 b h) (Fin.ext (by show 128 * (n.val / 2) + 64 * 0 + c.val = 64 * n.val + c.val; omega)))
      (Fin.ext (by show 64 * 0 + c'.val = 64 * (n.val % 2) + c'.val; omega)))
  · rw [show (⟨n.val % 2, by omega⟩ : Fin 2) = 1 from Fin.ext e, v8_1, v5_at, v4_at, v1_at]
    exact congrArg a3 (congr (congrArg (ix4 b h) (Fin.ext (by show 128 * (n.val / 2) + 64 * 1 + c.val = 64 * n.val + c.val; omega)))
      (Fin.ext (by show 64 * 1 + c'.val = 64 * (n.val % 2) + c'.val; omega)))

end Inputs

theorem result_at (s : State Ideal) (a6 : (⟨S16x2048x5120, .f32⟩ : BufTy).Contents (Elt Ideal)) (a7 : (⟨S128, .f32⟩ : BufTy).Contents (Elt Ideal))
    (b : Fin 16) (r : Fin 2048) (y : Fin 1024) : R_main_v59 s a6 a7 (ix3 b r y)
      = GATE (fun k => s.main_v32_8 (ix5 ⟨r.val / 64, by omega⟩ b ⟨y.val / 128, by omega⟩ ⟨r.val % 64, by omega⟩ k))
          (a7 (ix1 ⟨y.val % 128, by omega⟩)) (a6 (ix3 b r ⟨y.val, by omega⟩)) ⟨y.val % 128, by omega⟩ := by
  pointwise [R_main_v59]
  simp only [GATE, Ideal.logistic]

section Loop
variable (a0 a1 : (⟨S16x8x2048x128, .bf16⟩ : BufTy).Contents (Elt Ideal)) (a2 : (⟨S16x8x2048x128, .f32⟩ : BufTy).Contents (Elt Ideal))
  (a3 : (⟨S16x8x2048x128, .bf16⟩ : BufTy).Contents (Elt Ideal)) (a4 : (⟨S16x8x16x128x128, .bf16⟩ : BufTy).Contents (Elt Ideal))
  (a5 : (⟨S16x8x32x8x128, .f32⟩ : BufTy).Contents (Elt Ideal))

/-- What the loop's state holds before trip `n`: its inputs, the state after `n` chunks, and the outputs of those chunks. -/
structure After (s : State Ideal) (n : ℕ) : Prop where
  f0 : s.main_v32_0 = A_main_v24 a0 a1 a2 a3 a4 a5
  f1 : s.main_v32_1 = A_main_v25 a0 a1 a2 a3 a4 a5
  f2 : s.main_v32_2 = A_main_v26 a0 a1 a2 a3 a4 a5
  f3 : s.main_v32_3 = A_main_v27 a0 a1 a2 a3 a4 a5
  f4 : s.main_v32_4 = A_main_v28 a0 a1 a2 a3 a4 a5
  f5 : s.main_v32_5 = A_main_v29 a0 a1 a2 a3 a4 a5
  f7 : ∀ (b : Fin 16) (h : Fin 8) (i j : Fin 128), s.main_v32_7 (ix4 b h i j) = ST a0 a2 a4 a5 b h n i j
  f8 : ∀ q : Fin 32, q.val < n → ∀ (b : Fin 16) (h : Fin 8) (i : Fin 64) (j : Fin 128), s.main_v32_8 (ix5 q b h i j) = OUT a0 a1 a2 a3 a4 a5 b h q i j

theorem after_init : After a0 a1 a2 a3 a4 a5 (init a0 a1 a2 a3 a4 a5) 0 where
  f0 := rfl
  f1 := rfl
  f2 := rfl
  f3 := rfl
  f4 := rfl
  f5 := rfl
  f7 b h i j := by
    show K_main_v30 (F := Ideal) (ix4 b h i j) = 0
    pointwise [K_main_v30, K_main_cst]
  f8 q hq := absurd hq (Nat.not_lt_zero _)

theorem after_step (s : State Ideal) (n : Fin 32) (H : After a0 a1 a2 a3 a4 a5 s n.val) : After a0 a1 a2 a3 a4 a5 (step n.val s) (n.val + 1) where
  f0 := H.f0
  f1 := H.f1
  f2 := H.f2
  f3 := H.f3
  f4 := H.f4
  f5 := H.f5
  f7 b h i j := by
    rw [step_main_v32_7, b44_at, ST_succ _ _ _ _ _ _ _ n.isLt, H.f1, H.f2, H.f3, H.f4]
    simp only [v25_at, v26_at, v27_at, v28_at, H.f7]
  f8 q hq b h i j := by
    rw [step_main_v32_8, b50_at]
    split_ifs with hn
    · subst hn
      rw [b39_at, H.f0, H.f2, H.f3, H.f5]
      simp only [v24_at, v26_at, v27_at, v29_at, H.f7]
      rfl
    · exact H.f8 q (by have h1 : q.val ≠ n.val := fun e => hn (Fin.ext e); omega) b h i j

end Loop

section Result
variable (m : (ℓ : Loc nD τ sig) → Buf (Elt Ideal) ℓ) (c : Dev nD)

/-- The loop's states, one after the other. -/
def states : ℕ → State Ideal
  | 0 => Scan.initState m c
  | n + 1 => step n (states n)

theorem after_states (n : ℕ) (hn : n ≤ 32) : After (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (states m c n) n := by
  induction n with
  | zero => exact after_init _ _ _ _ _ _
  | succ k ih => exact after_step _ _ _ _ _ _ _ ⟨k, by omega⟩ (ih (by omega))

/-- What the reference computes. -/
theorem result (i : S16x2048x1024.Idx) :
    R_main_v59 (states m c 32) (m ((c.tc : Thread nD τ).loc main_arg6)) (m ((c.tc : Thread nD τ).loc main_arg7)) i
      = RES (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (i 0) (m ((c.tc : Thread nD τ).loc main_arg6)) (fun x => m ((c.tc : Thread nD τ).loc main_arg7) (ix1 x)) (i 1) (i 2) := by
  obtain ⟨b, r, y, rfl⟩ : ∃ (b : Fin 16) (r : Fin 2048) (y : Fin 1024), i = ix3 b r y := ⟨i 0, i 1, i 2, funext fun a => by fin_cases a <;> rfl⟩
  rw [result_at]
  simp only [fun q b h i j => (after_states m c 32 (le_refl _)).f8 q q.isLt b h i j]
  rfl

end Result

end Cert.ReferenceIdeal.Hand

end
-- ==== Proof.GdnClaims.lean ====
module

public import proofs.«01_k».proof.Defs
public import proofs.«01_k».proof.Proof.GdnFrame
public import proofs.«01_k».proof.Proof.GdnValue
public import proofs.«01_k».proof.Proof.GdnRef
public import Idealize.ShloMosaic.Lib.Claim

@[expose] public section

/-! The claims about the delta-rule scan: the reference's run read as the spelled-out result, and the equality with the kernel's. -/

set_option maxRecDepth 16384

noncomputable section

namespace Cert.Proof

open Idealize.ShloMosaic Idealize.ShloMosaic.TcCoe Idealize.SL.Sem

/-- The reference of the scan runs and leaves its arguments and every counter as they were. -/
theorem frameRef1 : Cert.quiescent_ReferenceIdeal := fun m g _ =>
  (θ_run Cert.ReferenceIdeal.defs _ _).mono (fun r h => ⟨fun c => (h c).2, sem_eq_zero_of_no_sems (by decide) r.2⟩) (Cert.ReferenceIdeal.Scan.run_iter m g (fun c => Cert.ReferenceIdeal.Hand.states m c) (fun _ => rfl) (fun _ _ => rfl))

theorem algebraic1 : Cert.algebraic_KernelIdeal_ReferenceIdeal := by
  intro m g m' g' _ hagree
  refine ⟨fun c => Cert.KernelIdeal.Hand.gatedAt m c, ?_, ?_⟩
  · run_from Cert.KernelIdeal.Hand.run_main m g
    exact Cert.KernelIdeal.Hand.final m c
  · refine (θ_run Cert.ReferenceIdeal.defs _ _).mono (fun r h c => ⟨(h c).1.trans ?_, (h c).2⟩) (Cert.ReferenceIdeal.Scan.run_iter m' g' (fun c => Cert.ReferenceIdeal.Hand.states m' c) (fun _ => rfl) (fun _ _ => rfl))
    funext i
    refine (Cert.ReferenceIdeal.Hand.result m' c i).trans ?_
    obtain ⟨h0, h1, h2, h3, h4, h5, h6, h7⟩ := hagree c
    rw [h0, h1, h2, h3, h4, h5, h6, h7]
    rfl

end Cert.Proof

end
-- ==== Proof.lean ====
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.DenseClaims
public import proofs.«01_k».proof.Proof.GdnClaims
public import Idealize.ShloMosaic.Lib.Claim

@[expose] public section

/-! The certificate's claim, assembled from the modules beside it. -/

noncomputable section

namespace Cert.Proof

open Idealize.ShloMosaic Idealize.SL.Sem

/-- The reference of call 2 runs and leaves its arguments and every counter as they were. -/
theorem frameRef2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The reference of call 3 runs and leaves its arguments and every counter as they were. -/
theorem frameRef3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The reference of call 4 runs and leaves its arguments and every counter as they were. -/
theorem frameRef4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- The reference of call 5 runs and leaves its arguments and every counter as they were. -/
theorem frameRef5 : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The reference of call 6 runs and leaves its arguments and every counter as they were. -/
theorem frameRef6 : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
    fun m g _ => Cert.Kernel.Hand.frame m g, fun m g _ => Cert.KernelIdeal.Hand.frame m g, frameRef1,
    fun m g _ => Cert.Kernel2.Gen.frame m g, fun m g _ => Cert.Kernel2Ideal.Gen.frame m g, frameRef2, fun m g _ => Cert.Kernel3.Gen.frame m g, fun m g _ => Cert.Kernel3Ideal.Gen.frame m g, frameRef3, fun m g _ => Cert.Kernel4.Gen.frame m g, fun m g _ => Cert.Kernel4Ideal.Gen.frame m g, frameRef4, fun m g _ => Cert.Kernel5.Gen.frame m g, fun m g _ => Cert.Kernel5Ideal.Gen.frame m g, frameRef5, fun m g _ => Cert.Kernel6.Gen.frame m g, fun m g _ => Cert.Kernel6Ideal.Gen.frame m g, frameRef6,
    trivial, algebraic1,
    trivial, algebraic2, trivial, algebraic3, trivial, algebraic4, trivial, algebraic5, trivial, algebraic6⟩

end Cert.Proof

end
